-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S15360x8192 : Shape := ⟨2, ![15360, 8192]⟩
abbrev S8192x8192 : Shape := ⟨2, ![8192, 8192]⟩
abbrev S8x64x128 : Shape := ⟨3, ![8, 64, 128]⟩
abbrev S1024x2048 : Shape := ⟨2, ![1024, 2048]⟩
abbrev S1024x1024 : Shape := ⟨2, ![1024, 1024]⟩
abbrev S2048x1024 : Shape := ⟨2, ![2048, 1024]⟩
abbrev S1x16x128 : Shape := ⟨3, ![1, 16, 128]⟩
abbrev S16x128 : Shape := ⟨2, ![16, 128]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S8x64x8 : Shape := ⟨3, ![8, 64, 8]⟩
abbrev S64x8x8 : Shape := ⟨3, ![64, 8, 8]⟩
abbrev S64x64 : Shape := ⟨2, ![64, 64]⟩

abbrev nBuf : Space → Nat
  | .hbm => 9
  | .vmem => 12
  | .smem => 0
  | _ => 0

abbrev bufTy : (tb : Table) → Fin (tcTables nBuf tb) → BufTy
  | .hbm, ⟨0, _⟩ => ⟨S15360x8192, .bf16⟩
  | .hbm, ⟨1, _⟩ => ⟨S15360x8192, .bf16⟩
  | .hbm, ⟨2, _⟩ => ⟨S8192x8192, .f32⟩
  | .hbm, ⟨3, _⟩ => ⟨S8192x8192, .i8⟩
  | .hbm, ⟨4, _⟩ => ⟨S8x64x128, .f32⟩
  | .hbm, ⟨5, _⟩ => ⟨S8192x8192, .f32⟩
  | .hbm, ⟨6, _⟩ => ⟨S8x64x8, .f32⟩
  | .hbm, ⟨7, _⟩ => ⟨S64x8x8, .f32⟩
  | .hbm, ⟨8, _⟩ => ⟨S64x64, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .i8⟩
  | .local _ .vmem, ⟨7, _⟩ => ⟨S2048x1024, .i8⟩
  | .local _ .vmem, ⟨8, _⟩ => ⟨S1x16x128, .f32⟩
  | .local _ .vmem, ⟨9, _⟩ => ⟨S1x16x128, .f32⟩
  | .local _ .vmem, ⟨10, _⟩ => ⟨S2048x1024, .f32⟩
  | .local _ .vmem, ⟨11, _⟩ => ⟨S2048x1024, .f32⟩
  | _, _ => ⟨S15360x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 15], ![false, false, false]⟩

def k0_cond1 (i : grid0.Coords) : BitVec 1 :=
  let arg2 : BitVec 32 := BitVec.ofNat 32 (i 2).val
  let c14_i32 : BitVec 32 := 14#32
  let v9 : BitVec 1 := Scalar.cmpi .eq arg2 c14_i32
  let v10 : BitVec 32 := Scalar.extui v9
  let c0_i32_7 : BitVec 32 := 0#32
  let v11 : BitVec 1 := Scalar.cmpi .ne v10 c0_i32_7
  v11

@[reducible] def k0_t1_loop : Scf.Loop 32 :=
  let c0_i32_9 : BitVec 32 := 0#32
  let c128_i32 : BitVec 32 := 128#32
  let v15 : BitVec 32 := Scalar.addi c0_i32_9 c128_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c0_i32_14 : BitVec 32 := 0#32
  let v21 : BitVec 1 := Scalar.cmpi .sgt arg9 c0_i32_14
  let v22 : BitVec 32 := Scalar.extui v21
  let c0_i32_15 : BitVec 32 := 0#32
  let v23 : BitVec 1 := Scalar.cmpi .slt arg9 c0_i32_15
  let v24 : BitVec 32 := Scalar.extui v23
  let v25 : BitVec 32 := Scalar.subi v22 v24
  let c8_i32 : BitVec 32 := 8#32
  let c0_i32_16 : BitVec 32 := 0#32
  let v26 : BitVec 1 := Scalar.cmpi .sgt c8_i32 c0_i32_16
  let v27 : BitVec 32 := Scalar.extui v26
  let c0_i32_17 : BitVec 32 := 0#32
  let v28 : BitVec 1 := Scalar.cmpi .slt c8_i32 c0_i32_17
  let v29 : BitVec 32 := Scalar.extui v28
  let v30 : BitVec 32 := Scalar.subi v27 v29
  let v31 : BitVec 1 := Scalar.cmpi .ne v25 v30
  let v32 : BitVec 32 := Scalar.remsi arg9 c8_i32
  let c0_i32_18 : BitVec 32 := 0#32
  let v33 : BitVec 1 := Scalar.cmpi .ne v32 c0_i32_18
  let v34 : BitVec 1 := Scalar.andi v31 v33
  let v20 : BitVec 32 := Scalar.divsi arg9 c8_i32
  let c1_i32_19 : BitVec 32 := 1#32
  let v35 : BitVec 32 := Scalar.subi v20 c1_i32_19
  let v36 : BitVec 32 := Scalar.select v34 v35 v20
  let c128_i32_26 : BitVec 32 := 128#32
  let v47 : BitVec 32 := Scalar.muli v36 c128_i32_26
  v47
def k0_mult2 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c8_i32_20 : BitVec 32 := 8#32
  let c0_i32_21 : BitVec 32 := 0#32
  let v37 : BitVec 1 := Scalar.cmpi .eq c8_i32_20 c0_i32_21
  let c1_i32_22 : BitVec 32 := 1#32
  let v38 : BitVec 32 := Scalar.select v37 c1_i32_22 c8_i32_20
  let v39 : BitVec 32 := Scalar.remsi arg9 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let c128_i32_27 : BitVec 32 := 128#32
  let v49 : BitVec 32 := Scalar.muli v46 c128_i32_27
  v49
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c0_i32_14 : BitVec 32 := 0#32
  let v21 : BitVec 1 := Scalar.cmpi .sgt arg9 c0_i32_14
  let v22 : BitVec 32 := Scalar.extui v21
  let c0_i32_15 : BitVec 32 := 0#32
  let v23 : BitVec 1 := Scalar.cmpi .slt arg9 c0_i32_15
  let v24 : BitVec 32 := Scalar.extui v23
  let v25 : BitVec 32 := Scalar.subi v22 v24
  let c8_i32 : BitVec 32 := 8#32
  let c0_i32_16 : BitVec 32 := 0#32
  let v26 : BitVec 1 := Scalar.cmpi .sgt c8_i32 c0_i32_16
  let v27 : BitVec 32 := Scalar.extui v26
  let c0_i32_17 : BitVec 32 := 0#32
  let v28 : BitVec 1 := Scalar.cmpi .slt c8_i32 c0_i32_17
  let v29 : BitVec 32 := Scalar.extui v28
  let v30 : BitVec 32 := Scalar.subi v27 v29
  let v31 : BitVec 1 := Scalar.cmpi .ne v25 v30
  let v32 : BitVec 32 := Scalar.remsi arg9 c8_i32
  let c0_i32_18 : BitVec 32 := 0#32
  let v33 : BitVec 1 := Scalar.cmpi .ne v32 c0_i32_18
  let v34 : BitVec 1 := Scalar.andi v31 v33
  let v20 : BitVec 32 := Scalar.divsi arg9 c8_i32
  let c1_i32_19 : BitVec 32 := 1#32
  let v35 : BitVec 32 := Scalar.subi v20 c1_i32_19
  let v36 : BitVec 32 := Scalar.select v34 v35 v20
  let c128_i32_26 : BitVec 32 := 128#32
  let v47 : BitVec 32 := Scalar.muli v36 c128_i32_26
  let v48 : BitVec 32 := v47
  let v51 : Index := Scalar.indexCast v48
  let c8_i32_20 : BitVec 32 := 8#32
  let c0_i32_21 : BitVec 32 := 0#32
  let v37 : BitVec 1 := Scalar.cmpi .eq c8_i32_20 c0_i32_21
  let c1_i32_22 : BitVec 32 := 1#32
  let v38 : BitVec 32 := Scalar.select v37 c1_i32_22 c8_i32_20
  let v39 : BitVec 32 := Scalar.remsi arg9 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let c128_i32_27 : BitVec 32 := 128#32
  let v49 : BitVec 32 := Scalar.muli v46 c128_i32_27
  let v50 : BitVec 32 := v49
  let v52 : Index := Scalar.indexCast v50
  ![v51.toNat, v52.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S15360x8192 : Shape := ⟨2, ![15360, 8192]⟩
abbrev S8192x8192 : Shape := ⟨2, ![8192, 8192]⟩
abbrev S64x128x64x128 : Shape := ⟨4, ![64, 128, 64, 128]⟩
abbrev S_ : Shape := ⟨0, ![]⟩
abbrev S64x64 : Shape := ⟨2, ![64, 64]⟩
abbrev S64x1x64x1 : Shape := ⟨4, ![64, 1, 64, 1]⟩

abbrev nBuf : Space → Nat
  | .hbm => 20
  | .vmem => 4
  | .smem => 0
  | _ => 0

abbrev bufTy : (tb : Table) → Fin (tcTables nBuf tb) → BufTy
  | .hbm, ⟨0, _⟩ => ⟨S15360x8192, .bf16⟩
  | .hbm, ⟨1, _⟩ => ⟨S15360x8192, .bf16⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S64x128x64x128, .f32⟩
  | .hbm, ⟨6, _⟩ => ⟨S64x128x64x128, .f32⟩
  | .hbm, ⟨7, _⟩ => ⟨S_, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .i1⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S8192x8192, .i8⟩
  | .hbm, ⟨19, _⟩ => ⟨S8192x8192, .f32⟩
  | .local _ .vmem, ⟨0, _⟩ => ⟨S8192x8192, .f32⟩
  | .local _ .vmem, ⟨1, _⟩ => ⟨S64x64, .f32⟩
  | .local _ .vmem, ⟨2, _⟩ => ⟨S8192x8192, .i8⟩
  | .local _ .vmem, ⟨3, _⟩ => ⟨S8192x8192, .f32⟩
  | _, _ => ⟨S15360x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Squares.lean ====
/-
  WHAT ONE WRITING POINT OF THE KERNEL COMPUTES, square by square. The body's counted loop goes over the 128 squares of
  128×128 elements of a 2048×1024 block; trip `k` handles square (k / 8, k % 8). This module names what a square's trip
  stores (`codesB`, `newErrB`, `scalesB`, functions of the accumulated block and of the carried-error block), and proves
  by induction on the trips that the generated loop state (`Gen.st_k0_t1`) holds exactly that.
-/
module

public import proofs.«01_k».proof.Proof.Gen.KernelIdeal.Frame
public import proofs.«01_k».proof.Proof.Gen.KernelIdeal.Loops
public import Idealize.ShloMosaic.Lib.Pointwise
public import Idealize.ShloMosaic.Lib.WritesUnit
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.ShloMosaic.Tactic

variable {F : FTy → Type} [FloatOps F]

/-! ## The squares of a block -/

/-- The square (p, q) of a block: rows 128·p …, columns 128·q …. -/
def tileOf (A : Vec F S2048x1024 .f32) (p : Fin 16) (q : Fin 8) : Vec F S128x128 .f32 :=
  fun x => A (ix2 ⟨p.val * 128 + (x 0).val, by have := p.isLt; have : (x 0).val < 128 := (x 0).isLt; omega⟩
    ⟨q.val * 128 + (x 1).val, by have := q.isLt; have : (x 1).val < 128 := (x 1).isLt; omega⟩)

/-- The square a block's row lies in, -/
abbrev rowSq (y : S2048x1024.Idx) : Fin 16 := ⟨(y 0).val / 128, by have : (y 0).val < 2048 := (y 0).isLt; omega⟩
/-- and the one its column lies in, -/
abbrev colSq (y : S2048x1024.Idx) : Fin 8 := ⟨(y 1).val / 128, by have : (y 1).val < 1024 := (y 1).isLt; omega⟩
/-- and the place inside the square. -/
abbrev inSq (y : S2048x1024.Idx) : S128x128.Idx := ix2 ⟨(y 0).val % 128, Nat.mod_lt _ (by decide)⟩ ⟨(y 1).val % 128, Nat.mod_lt _ (by decide)⟩

/-- The value of square (p, q): the accumulated block's square plus the carried error's. -/
def tileV (A E : Vec F S2048x1024 .f32) (p : Fin 16) (q : Fin 8) : FVec F S128x128 .f32 := k0_pay9 (tileOf A p q) (tileOf E p q)
/-- Its largest absolute value. -/
def tileM (A E : Vec F S2048x1024 .f32) (p : Fin 16) (q : Fin 8) : FVec F S1x1x1 .f32 := k0_pay10 (tileOf A p q) (tileOf E p q)

/-- The codes of a block, -/
def codesB (A E : Vec F S2048x1024 .f32) : Vec F S2048x1024 .i8 :=
  fun y => k0_pay5 (tileV A E (rowSq y) (colSq y)) (tileM A E (rowSq y) (colSq y)) (inSq y)
/-- the new error of a block, -/
def newErrB (A E : Vec F S2048x1024 .f32) : Vec F S2048x1024 .f32 :=
  fun y => k0_pay6 (tileV A E (rowSq y) (colSq y)) (tileM A E (rowSq y) (colSq y)) (inSq y)
/-- and the table of the scales of the first `n` squares: entry (p, q), q < 8, is the scale of square (p, q); the
    other entries are what the table was filled with. -/
def scalesUpTo (A E : Vec F S2048x1024 .f32) (n : ℕ) : FVec F S16x128 .f32 :=
  fun y => if h : (y 1).val < 8 ∧ (y 0).val * 8 + (y 1).val < n then
      k0_pay3 (tileM A E (y 0) ⟨(y 1).val, h.1⟩) (ix2 0 0)
    else k0_pay2 (F := F) y

/-! ## The loop's words in closed form -/

theorem trips_eq : k0_t1_loop.trips = 128 := by decide +kernel

theorem off_all : ∀ k : Fin k0_t1_loop.trips, k0_off1 k 0 = k.val / 8 * 128 ∧ k0_off1 k 1 = k.val % 8 * 128 := by decide +kernel

/-- Trip `k` works at row 128·(k / 8) and column 128·(k % 8). -/
theorem off_eq (k : Fin k0_t1_loop.trips) : k0_off1 k = ![k.val / 8 * 128, k.val % 8 * 128] :=
  funext fun a => by
    match a with
    | ⟨0, _⟩ => exact (off_all k).1
    | ⟨1, _⟩ => exact (off_all k).2

theorem v36_eq : ∀ k : Fin k0_t1_loop.trips, trip_k0_t1.sl.v36 k = BitVec.ofNat 32 (k.val / 8) := by
  sl_unfold_words; decide +kernel
theorem v46_eq : ∀ k : Fin k0_t1_loop.trips, trip_k0_t1.sl.v46 k = BitVec.ofNat 32 (k.val % 8) := by
  sl_unfold_words; decide +kernel

/-! ## One trip -/

/-- The square of trip `k`. -/
abbrev rowOf (k : Fin k0_t1_loop.trips) : Fin 16 := ⟨k.val / 8, by have := lt_of_lt_of_eq k.isLt trips_eq; omega⟩
abbrev colOf (k : Fin k0_t1_loop.trips) : Fin 8 := ⟨k.val % 8, by omega⟩

/-- Loading trip `k`'s rectangle of a block reads its square. -/
theorem ld_tile (A : Vec F S2048x1024 .f32) (k : Fin k0_t1_loop.trips)
    (inb : ∀ a, k0_off1 k a + S128x128.size a ≤ S2048x1024.size a) :
    (View.ld A (Rect.unit (s := S2048x1024) (k0_off1 k) S128x128.size inb) : Vec F S128x128 .f32) = tileOf A (rowOf k) (colOf k) := by
  funext x
  show A _ = A _
  congr 1
  funext a
  apply Fin.ext
  match a with
  | ⟨0, _⟩ => show k0_off1 k 0 + 1 * (x 0).val = k.val / 8 * 128 + (x 0).val; rw [(off_all k).1, Nat.one_mul]
  | ⟨1, _⟩ => show k0_off1 k 1 + 1 * (x 1).val = k.val % 8 * 128 + (x 1).val; rw [(off_all k).2, Nat.one_mul]

section Trip
variable (𝒱 : Variants) (c : Dev nD) (bd : Option 𝒱.V) (i : grid0.Coords)
  (arg3 : Memref sig .tc .vmem S1024x2048 .bf16) (harg3 : arg3.IsWhole) (arg4 : Memref sig .tc .vmem S1024x1024 .bf16) (harg4 : arg4.IsWhole)
  (arg5 : Memref sig .tc .vmem S2048x1024 .f32) (harg5 : arg5.IsWhole) (arg6 : Memref sig .tc .vmem S2048x1024 .i8) (harg6 : arg6.IsWhole)
  (arg7 : Memref sig .tc .vmem S1x16x128 .f32) (harg7 : arg7.IsWhole) (arg8 : Memref sig .tc .vmem S2048x1024 .f32) (harg8 : arg8.IsWhole)
  (h1 : k0_cond1 i = 1#1) (X5 : BufTy.Contents (Elt F) arg5.view.ty)

theorem word_v (k : Fin k0_t1_loop.trips) (f8 : BufTy.Contents (Elt F) arg8.view.ty) :
    trip_k0_t1.sl.r i arg5 arg8 h1 X5 k f8 = tileV (arg8.view.read (Elt F) f8) (arg5.view.read (Elt F) X5) (rowOf k) (colOf k) := by
  unfold tileV
  rw [← ld_tile _ k (k0_off1_inb i k h1), ← ld_tile _ k (k0_off1_inb i k h1)]
  sl_unfold_run_names
  rfl

theorem word_m (k : Fin k0_t1_loop.trips) (f8 : BufTy.Contents (Elt F) arg8.view.ty) :
    trip_k0_t1.sl.r_1 i arg5 arg8 h1 X5 k f8 = tileM (arg8.view.read (Elt F) f8) (arg5.view.read (Elt F) X5) (rowOf k) (colOf k) := by
  unfold tileM
  rw [← ld_tile _ k (k0_off1_inb i k h1), ← ld_tile _ k (k0_off1_inb i k h1)]
  sl_unfold_run_names
  rfl

/-- What a trip yields and what it stores, in terms of the square it works on. -/
theorem trip_eq (k : Fin k0_t1_loop.trips) (acc : FVec F S16x128 .f32) (f6 : BufTy.Contents (Elt F) arg6.view.ty)
    (f8 : BufTy.Contents (Elt F) arg8.view.ty) (A E : Vec F S2048x1024 .f32)
    (hA : tileOf (arg8.view.read (Elt F) f8) (rowOf k) (colOf k) = tileOf A (rowOf k) (colOf k)) (hE : arg5.view.read (Elt F) X5 = E) :
    tripR_k0_t1 (F := F) 𝒱 c bd i arg3 harg3 arg4 harg4 arg5 harg5 arg6 harg6 arg7 harg7 arg8 harg8 h1 X5 k acc f6 f8
        = k0_pay7 acc (BitVec.ofNat 32 (k.val / 8)) (BitVec.ofNat 32 (k.val % 8)) (tileM A E (rowOf k) (colOf k))
      ∧ tripL_k0_t1 (F := F) 𝒱 c bd i arg3 harg3 arg4 harg4 arg5 harg5 arg6 harg6 arg7 harg7 arg8 harg8 h1 X5 k acc f6 f8
        = ([⟨Rect.unit (s := S2048x1024) (k0_off1 k) S128x128.size (k0_off1_inb i k h1), k0_pay5 (tileV A E (rowOf k) (colOf k)) (tileM A E (rowOf k) (colOf k))⟩],
           [⟨Rect.unit (s := S2048x1024) (k0_off1 k) S128x128.size (k0_off1_inb i k h1), k0_pay6 (tileV A E (rowOf k) (colOf k)) (tileM A E (rowOf k) (colOf k))⟩]) := by
  subst hE
  have hv : tileV (arg8.view.read (Elt F) f8) (arg5.view.read (Elt F) X5) (rowOf k) (colOf k) = tileV A (arg5.view.read (Elt F) X5) (rowOf k) (colOf k) := by
    unfold tileV; rw [hA]
  have hm : tileM (arg8.view.read (Elt F) f8) (arg5.view.read (Elt F) X5) (rowOf k) (colOf k) = tileM A (arg5.view.read (Elt F) X5) (rowOf k) (colOf k) := by
    unfold tileM; rw [hA]
  rw [← hv, ← hm, ← word_v i arg5 arg8 h1 X5 k f8, ← word_m i arg5 arg8 h1 X5 k f8, ← v36_eq, ← v46_eq]
  unfold tripR_k0_t1 tripL_k0_t1 trip_k0_t1
  exact ⟨rfl, rfl⟩

/-! ## All trips -/

/-- The scale table at a row and a lane. -/
theorem scalesUpTo_at (A E : Vec F S2048x1024 .f32) (n : ℕ) (y0 : Fin 16) (y1 : Fin 128) :
    scalesUpTo A E n (ix2 y0 y1) = if h : y1.val < 8 ∧ y0.val * 8 + y1.val < n then k0_pay3 (tileM A E y0 ⟨y1.val, h.1⟩) (ix2 0 0)
      else k0_pay2 (ix2 y0 y1) := rfl

/-- One step of the scale table. -/
theorem scales_step (A E : Vec F S2048x1024 .f32) (k : Fin k0_t1_loop.trips) :
    k0_pay7 (scalesUpTo A E k.val) (BitVec.ofNat 32 (k.val / 8)) (BitVec.ofNat 32 (k.val % 8)) (tileM A E (rowOf k) (colOf k))
      = scalesUpTo A E (k.val + 1) := by
  funext y
  have hk := lt_of_lt_of_eq k.isLt trips_eq
  idx_vars y
  pointwise [k0_pay7]
  rw [WordCmp.cmpi_eq_ofNat (by omega) (by omega), WordCmp.cmpi_eq_ofNat (by omega) (by omega)]
  have key : ((y1 : ℕ) < 8 ∧ (y0 : ℕ) * 8 + (y1 : ℕ) < k.val + 1)
      ↔ (((y0 : ℕ) = k.val / 8 ∧ (y1 : ℕ) = k.val % 8) ∨ ((y1 : ℕ) < 8 ∧ (y0 : ℕ) * 8 + (y1 : ℕ) < k.val)) := by omega
  by_cases hy : (y0 : ℕ) = k.val / 8 ∧ (y1 : ℕ) = k.val % 8
  · have h8 : (y1 : ℕ) < 8 ∧ (y0 : ℕ) * 8 + (y1 : ℕ) < k.val + 1 := by omega
    have e0 : y0 = rowOf k := Fin.ext hy.1
    have e1 : (⟨y1.val, h8.1⟩ : Fin 8) = colOf k := Fin.ext hy.2
    rw [decide_eq_true hy.1, decide_eq_true hy.2]
    rw [scalesUpTo_at A E (k.val + 1), dif_pos h8]
    show Scalar.select 1#1 _ _ = k0_pay3 (tileM A E y0 ⟨y1.val, h8.1⟩) (ix2 0 0)
    rw [e1, e0]; rfl
  · have hz : IntOp.andi (BitVec.ofBool (decide ((y0 : ℕ) = k.val / 8))) (BitVec.ofBool (decide ((y1 : ℕ) = k.val % 8))) = 0#1 := by
      by_cases h0 : (y0 : ℕ) = k.val / 8
      · rw [decide_eq_false (fun h => hy ⟨h0, h⟩), decide_eq_true h0]; rfl
      · rw [decide_eq_false h0]; cases decide ((y1 : ℕ) = k.val % 8) <;> rfl
    rw [hz]
    show scalesUpTo A E k.val (ix2 y0 y1) = _
    rw [scalesUpTo_at, scalesUpTo_at]
    by_cases h8 : (y1 : ℕ) < 8 ∧ (y0 : ℕ) * 8 + (y1 : ℕ) < k.val
    · rw [dif_pos h8, dif_pos (key.mpr (.inr h8))]
    · rw [dif_neg h8, dif_neg (fun h => (key.mp h).elim hy h8)]

/-- A triple built from a value and the two halves of a pair, at what the value and the pair equal. -/
theorem triple_eq {α β γ : Type*} {r r' : α} {l : List β × List γ} {p : List β} {q : List γ} {x : List β} {z : List γ}
    (hr : r = r') (hl : l = (p, q)) : (r, l.1 ++ x, l.2 ++ z) = (r', p ++ x, q ++ z) := by
  subst hr; subst hl; rfl

/-- Storing a square's payload on top of earlier pieces, read at an index: the payload in the square, the earlier
    contents elsewhere. -/
theorem read_square {e : EltTy} {sp : Space} (v : View sig .tc sp S2048x1024 e) (f : v.ty.Contents (Elt F)) (k : Fin k0_t1_loop.trips)
    (inb : ∀ a, k0_off1 k a + S128x128.size a ≤ S2048x1024.size a) (w : Vec F S128x128 e) (L : List (View.Piece (Elt F) S2048x1024 e))
    (y : S2048x1024.Idx) :
    v.read (Elt F) (v.writes (Elt F) f ((⟨Rect.unit (s := S2048x1024) (k0_off1 k) S128x128.size inb, w⟩ : View.Piece (Elt F) S2048x1024 e) :: L)) y
      = if (y 0).val / 128 * 8 + (y 1).val / 128 = k.val then w (inSq y) else v.read (Elt F) (v.writes (Elt F) f L) y := by
  have hk := lt_of_lt_of_eq k.isLt trips_eq
  have hy0 : (y 0).val < 2048 := (y 0).isLt
  have hy1 : (y 1).val < 1024 := (y 1).isLt
  split
  · rename_i h
    refine View.read_writes_cons_unit_of_mem v f inb w L y (inSq y) (off_eq k) fun a => ?_
    match a with
    | ⟨0, _⟩ => show (y 0).val = k.val / 8 * 128 + (y 0).val % 128; omega
    | ⟨1, _⟩ => show (y 1).val = k.val % 8 * 128 + (y 1).val % 128; omega
  · rename_i h
    by_cases h0 : (y 0).val / 128 = k.val / 8
    · refine View.read_writes_cons_unit_of_not_mem v f inb w L y (off_eq k) 1 ?_
      show (y 1).val < k.val % 8 * 128 ∨ k.val % 8 * 128 + 128 ≤ (y 1).val
      omega
    · refine View.read_writes_cons_unit_of_not_mem v f inb w L y (off_eq k) 0 ?_
      show (y 0).val < k.val / 8 * 128 ∨ k.val / 8 * 128 + 128 ≤ (y 0).val
      omega

/-- THE STATE BEFORE TRIP `n`: the scale table of the squares below `n`; both written buffers hold the results on those
    squares and what they held at the loop's entry elsewhere. -/
theorem state_eq (G6 : BufTy.Contents (Elt F) arg6.view.ty) (G8 : BufTy.Contents (Elt F) arg8.view.ty) (A E : Vec F S2048x1024 .f32)
    (hA : arg8.view.read (Elt F) G8 = A) (hE : arg5.view.read (Elt F) X5 = E) (n : ℕ) (hn : n ≤ 128) :
    (st_k0_t1 (F := F) 𝒱 c bd i arg3 harg3 arg4 harg4 arg5 harg5 arg6 harg6 arg7 harg7 arg8 harg8 h1 X5 G6 G8 k0_pay2 n).1 = scalesUpTo A E n
    ∧ (∀ y, arg6.view.read (Elt F) (arg6.view.writes (Elt F) G6 (st_k0_t1 (F := F) 𝒱 c bd i arg3 harg3 arg4 harg4 arg5 harg5 arg6 harg6 arg7 harg7 arg8 harg8 h1 X5 G6 G8 k0_pay2 n).2.1) y
        = if (y 0).val / 128 * 8 + (y 1).val / 128 < n then codesB A E y else arg6.view.read (Elt F) G6 y)
    ∧ (∀ y, arg8.view.read (Elt F) (arg8.view.writes (Elt F) G8 (st_k0_t1 (F := F) 𝒱 c bd i arg3 harg3 arg4 harg4 arg5 harg5 arg6 harg6 arg7 harg7 arg8 harg8 h1 X5 G6 G8 k0_pay2 n).2.2) y
        = if (y 0).val / 128 * 8 + (y 1).val / 128 < n then newErrB A E y else A y) := by
  induction n with
  | zero =>
    refine ⟨?_, fun y => ?_, fun y => ?_⟩
    · rw [st_k0_t1_zero]; funext y; unfold scalesUpTo; rw [dif_neg (by omega)]
    · rw [if_neg (by omega)]; rfl
    · rw [if_neg (by omega), ← hA]; rfl
  | succ n ih =>
    obtain ⟨i1, i6, i8⟩ := ih (by omega)
    have hlt : n < k0_t1_loop.trips := by rw [trips_eq]; omega
    have hsq : tileOf (arg8.view.read (Elt F) (arg8.view.writes (Elt F) G8 (st_k0_t1 (F := F) 𝒱 c bd i arg3 harg3 arg4 harg4 arg5 harg5 arg6 harg6 arg7 harg7 arg8 harg8 h1 X5 G6 G8 k0_pay2 n).2.2)) (rowOf ⟨n, hlt⟩) (colOf ⟨n, hlt⟩)
        = tileOf A (rowOf ⟨n, hlt⟩) (colOf ⟨n, hlt⟩) := by
      funext x
      have hx0 : (x 0).val < 128 := (x 0).isLt
      have hx1 : (x 1).val < 128 := (x 1).isLt
      unfold tileOf
      rw [i8, if_neg]
      show ¬((n / 8 * 128 + (x 0).val) / 128 * 8 + (n % 8 * 128 + (x 1).val) / 128 < n)
      omega
    obtain ⟨eR, eL⟩ := trip_eq 𝒱 c bd i arg3 harg3 arg4 harg4 arg5 harg5 arg6 harg6 arg7 harg7 arg8 harg8 h1 X5 ⟨n, hlt⟩
      (st_k0_t1 (F := F) 𝒱 c bd i arg3 harg3 arg4 harg4 arg5 harg5 arg6 harg6 arg7 harg7 arg8 harg8 h1 X5 G6 G8 k0_pay2 n).1
      (arg6.view.writes (Elt F) G6 (st_k0_t1 (F := F) 𝒱 c bd i arg3 harg3 arg4 harg4 arg5 harg5 arg6 harg6 arg7 harg7 arg8 harg8 h1 X5 G6 G8 k0_pay2 n).2.1)
      (arg8.view.writes (Elt F) G8 (st_k0_t1 (F := F) 𝒱 c bd i arg3 harg3 arg4 harg4 arg5 harg5 arg6 harg6 arg7 harg7 arg8 harg8 h1 X5 G6 G8 k0_pay2 n).2.2)
      A E hsq hE
    have hs := st_k0_t1_succ (F := F) 𝒱 c bd i arg3 harg3 arg4 harg4 arg5 harg5 arg6 harg6 arg7 harg7 arg8 harg8 h1 X5 G6 G8 k0_pay2 ⟨n, hlt⟩
    have hs' := hs.trans (triple_eq eR eL)
    rw [show st_k0_t1 (F := F) 𝒱 c bd i arg3 harg3 arg4 harg4 arg5 harg5 arg6 harg6 arg7 harg7 arg8 harg8 h1 X5 G6 G8 k0_pay2 (n + 1) = _ from hs']
    refine ⟨?_, fun y => ?_, fun y => ?_⟩
    · dsimp only
      rw [i1]
      exact scales_step A E ⟨n, hlt⟩
    · dsimp only [List.cons_append, List.nil_append]
      rw [read_square, i6]
      by_cases hq : (y 0).val / 128 * 8 + (y 1).val / 128 = n
      · rw [if_pos hq, if_pos (by omega)]
        have e0 : rowSq y = rowOf ⟨n, hlt⟩ := Fin.ext (by show (y 0).val / 128 = n / 8; have : (y 1).val < 1024 := (y 1).isLt; omega)
        have e1 : colSq y = colOf ⟨n, hlt⟩ := Fin.ext (by show (y 1).val / 128 = n % 8; have : (y 1).val < 1024 := (y 1).isLt; omega)
        unfold codesB; rw [e0, e1]
      · rw [if_neg hq]
        by_cases hl : (y 0).val / 128 * 8 + (y 1).val / 128 < n
        · rw [if_pos hl, if_pos (by omega)]
        · rw [if_neg hl, if_neg (by omega)]
    · dsimp only [List.cons_append, List.nil_append]
      rw [read_square, i8]
      by_cases hq : (y 0).val / 128 * 8 + (y 1).val / 128 = n
      · rw [if_pos hq, if_pos (by omega)]
        have e0 : rowSq y = rowOf ⟨n, hlt⟩ := Fin.ext (by show (y 0).val / 128 = n / 8; have : (y 1).val < 1024 := (y 1).isLt; omega)
        have e1 : colSq y = colOf ⟨n, hlt⟩ := Fin.ext (by show (y 1).val / 128 = n % 8; have : (y 1).val < 1024 := (y 1).isLt; omega)
        unfold newErrB; rw [e0, e1]
      · rw [if_neg hq]
        by_cases hl : (y 0).val / 128 * 8 + (y 1).val / 128 < n
        · rw [if_pos hl, if_pos (by omega)]
        · rw [if_neg hl, if_neg (by omega)]

/-- AFTER THE LOOP: the whole scale table; both written buffers hold the results everywhere. -/
theorem state_all (G6 : BufTy.Contents (Elt F) arg6.view.ty) (G8 : BufTy.Contents (Elt F) arg8.view.ty) (A E : Vec F S2048x1024 .f32)
    (hA : arg8.view.read (Elt F) G8 = A) (hE : arg5.view.read (Elt F) X5 = E) :
    (st_k0_t1 (F := F) 𝒱 c bd i arg3 harg3 arg4 harg4 arg5 harg5 arg6 harg6 arg7 harg7 arg8 harg8 h1 X5 G6 G8 k0_pay2 k0_t1_loop.trips).1 = scalesUpTo A E 128
    ∧ arg6.view.read (Elt F) (arg6.view.writes (Elt F) G6 (st_k0_t1 (F := F) 𝒱 c bd i arg3 harg3 arg4 harg4 arg5 harg5 arg6 harg6 arg7 harg7 arg8 harg8 h1 X5 G6 G8 k0_pay2 k0_t1_loop.trips).2.1) = codesB A E
    ∧ arg8.view.read (Elt F) (arg8.view.writes (Elt F) G8 (st_k0_t1 (F := F) 𝒱 c bd i arg3 harg3 arg4 harg4 arg5 harg5 arg6 harg6 arg7 harg7 arg8 harg8 h1 X5 G6 G8 k0_pay2 k0_t1_loop.trips).2.2) = newErrB A E := by
  rw [trips_eq]
  obtain ⟨i1, i6, i8⟩ := state_eq 𝒱 c bd i arg3 harg3 arg4 harg4 arg5 harg5 arg6 harg6 arg7 harg7 arg8 harg8 h1 X5 G6 G8 A E hA hE 128 le_rfl
  have hall : ∀ y : S2048x1024.Idx, (y 0).val / 128 * 8 + (y 1).val / 128 < 128 := fun y => by
    have : (y 0).val < 2048 := (y 0).isLt
    have : (y 1).val < 1024 := (y 1).isLt
    omega
  exact ⟨i1, funext fun y => (i6 y).trans (if_pos (hall y)), funext fun y => (i8 y).trans (if_pos (hall y))⟩

end Trip

end Cert.KernelIdeal.Value
end
-- ==== Proof.Body.lean ====
/-
  ONE RUN OF THE KERNEL BODY, in its two cases: a point whose contraction step is not the last adds one product into the
  third output's buffer and touches nothing else (`run_A`); the last step adds its product and then quantizes the whole
  block, square by square (`run_B`).
-/
module

public import proofs.«01_k».proof.Proof.Squares

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset pair of a whole-block access is zero on every axis. -/
theorem zero2 : (![0, 0] : Fin 2 → ℕ) = fun _ => 0 := by funext a; fin_cases a <;> rfl
/-- Likewise for three axes. -/
theorem zero3 : (![0, 0, 0] : Fin 3 → ℕ) = fun _ => 0 := by funext a; fin_cases a <;> rfl

/-- A store over a whole matrix buffer, read back: what was stored. -/
theorem read_whole2 {e : EltTy} {sp : Space} {n0 n1 : ℕ} (v : View sig .tc sp ⟨2, ![n0, n1]⟩ e) (f : v.ty.Contents (Elt F))
    (inb : ∀ a, (![0, 0] : Fin 2 → ℕ) a + (![n0, n1] : Fin 2 → ℕ) a ≤ (![n0, n1] : Fin 2 → ℕ) a) (w : Vec F ⟨2, ![n0, n1]⟩ e) :
    v.read (Elt F) (v.writes (Elt F) f [(⟨Rect.unit (s := ⟨2, ![n0, n1]⟩) ![0, 0] ![n0, n1] inb, w⟩ : View.Piece (Elt F) ⟨2, ![n0, n1]⟩ e)]) = w :=
  funext fun y => View.read_writes_cons_unit_of_mem v f inb w [] y y zero2 fun a => (Nat.zero_add _).symm

/-- The same over a buffer with three axes. -/
theorem read_whole3 {e : EltTy} {sp : Space} {n0 n1 n2 : ℕ} (v : View sig .tc sp ⟨3, ![n0, n1, n2]⟩ e) (f : v.ty.Contents (Elt F))
    (inb : ∀ a, (![0, 0, 0] : Fin 3 → ℕ) a + (![n0, n1, n2] : Fin 3 → ℕ) a ≤ (![n0, n1, n2] : Fin 3 → ℕ) a) (w : Vec F ⟨3, ![n0, n1, n2]⟩ e) :
    v.read (Elt F) (v.writes (Elt F) f [(⟨Rect.unit (s := ⟨3, ![n0, n1, n2]⟩) ![0, 0, 0] ![n0, n1, n2] inb, w⟩ : View.Piece (Elt F) ⟨3, ![n0, n1, n2]⟩ e)]) = w :=
  funext fun y => View.read_writes_cons_unit_of_mem v f inb w [] y y zero3 fun a => (Nat.zero_add _).symm

/-- A load of a whole matrix buffer: what the buffer holds. -/
theorem load_whole2 {e : EltTy} {sp : Space} {n0 n1 : ℕ} (v : View sig .tc sp ⟨2, ![n0, n1]⟩ e) (f : v.ty.Contents (Elt F))
    (inb : ∀ a, (![0, 0] : Fin 2 → ℕ) a + (![n0, n1] : Fin 2 → ℕ) a ≤ (![n0, n1] : Fin 2 → ℕ) a) :
    v.readAt (Elt F) (Rect.unit (s := ⟨2, ![n0, n1]⟩) ![0, 0] ![n0, n1] inb).toLoadRect f = v.read (Elt F) f := by
  rw [View.readAt_eq_ld, View.ld_unit_zero (S := ⟨2, ![n0, n1]⟩) zero2]

-- (the run's proof term is large: checking it walks past the default budget)
set_option maxHeartbeats 1000000 in
/-- THE BODY WHERE NOTHING IS QUANTIZED: the accumulator's buffer ends at the sum so far; every other buffer as found. -/
theorem run_A (c : Dev nD) (i : grid0.Coords) (arg3 : Memref sig .tc .vmem S1024x2048 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .i8) (harg6 : arg6.IsWhole) (arg7 : Memref sig .tc .vmem S1x16x128 .f32) (harg7 : arg7.IsWhole) (arg8 : Memref sig .tc .vmem S2048x1024 .f32) (harg8 : arg8.IsWhole)
    (hc0 : ¬ k0_cond1 i = 1#1) (x0 : Vec F S1024x2048 .bf16) (x1 : Vec F S1024x1024 .bf16) (x2 : Vec F S2048x1024 .f32)
    (x3 : Vec F S2048x1024 .i8) (x4 : Vec F S1x16x128 .f32) (x5 : Vec F S2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 i x0 x1 x5)) -∗ K ⟨⟩))
          ⊢ wp frame (wpE (defs₀ (F := F)) Variants.none c none) E (cc0_wgrad_int8 i arg3 harg3 arg4 harg4 arg5 harg5 arg6 harg6 arg7 harg7 arg8 harg8) K := by
    intro E K
    simp only [cc0_wgrad_int8_eq_skeleton]; unfold cc0_wgrad_int8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [H4]
    · iexists _; isplitr; · ipureintro; exact hf4
      iexact H4
    iexists _; isplitr; swap; · iexact H5
    ipureintro
    refine (read_whole2 arg8.view _ _ _).trans ?_
    rw [show View.readAt (Elt F) arg3.view _ (harg3.unread x0) = x0 from (load_whole2 arg3.view _ _).trans hf0,
      show View.readAt (Elt F) arg4.view _ (harg4.unread x1) = x1 from (load_whole2 arg4.view _ _).trans hf1,
      show View.readAt (Elt F) arg8.view _ (harg8.unread x5) = x5 from (load_whole2 arg8.view _ _).trans hf5]

-- (the run's proof term is large: checking it walks past the default budget)
set_option maxHeartbeats 2000000 in
/-- THE BODY AT THE LAST CONTRACTION STEP: with `a` the finished sum, the codes' buffer ends at the codes of `a`, the
    scales' at the table of all 128 scales, and the accumulator's at the new error. -/
theorem run_B (c : Dev nD) (i : grid0.Coords) (arg3 : Memref sig .tc .vmem S1024x2048 .bf16) (harg3 : arg3.IsWhole) (arg4 : Memref sig .tc .vmem S1024x1024 .bf16) (harg4 : arg4.IsWhole) (arg5 : Memref sig .tc .vmem S2048x1024 .f32) (harg5 : arg5.IsWhole) (arg6 : Memref sig .tc .vmem S2048x1024 .i8) (harg6 : arg6.IsWhole) (arg7 : Memref sig .tc .vmem S1x16x128 .f32) (harg7 : arg7.IsWhole) (arg8 : Memref sig .tc .vmem S2048x1024 .f32) (harg8 : arg8.IsWhole)
    (hc0 : k0_cond1 i = 1#1) (x0 : Vec F S1024x2048 .bf16) (x1 : Vec F S1024x1024 .bf16) (x2 : Vec F S2048x1024 .f32)
    (x3 : Vec F S2048x1024 .i8) (x4 : Vec F S1x16x128 .f32) (x5 : Vec F S2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (iprop(owns (c : Thread nD τ) arg3 fullShare x0 ∗ owns (c : Thread nD τ) arg4 fullShare x1 ∗ owns (c : Thread nD τ) arg5 fullShare x2 ∗ owns (c : Thread nD τ) arg6 fullShare (codesB (k0_pay1 i x0 x1 x5) x2) ∗ owns (c : Thread nD τ) arg7 fullShare (k0_pay8 (scalesUpTo (k0_pay1 i x0 x1 x5) x2 128)) ∗ owns (c : Thread nD τ) arg8 fullShare (newErrB (k0_pay1 i x0 x1 x5) x2)) -∗ K ⟨⟩))
          ⊢ wp frame (wpE (defs₀ (F := F)) Variants.none c none) E (cc0_wgrad_int8 i arg3 harg3 arg4 harg4 arg5 harg5 arg6 harg6 arg7 harg7 arg8 harg8) K := by
    intro E K
    simp only [cc0_wgrad_int8_eq_skeleton]; unfold cc0_wgrad_int8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2
    obtain rfl := harg8.eq_unread hf5
    sl_exec (disch := first | sl_exact hc0)
    sl_step
    iapply Hk
    have hA : arg8.view.read (Elt F) (arg8.view.writes (Elt F) arg8.view.junk (run_B.sl.H5_1 c i arg3 harg3 arg4 harg4 arg8 harg8 x0 x1 x5)) = k0_pay1 i x0 x1 x5 := by
      sl_unfold_run_names
      refine (read_whole2 arg8.view _ _ _).trans ?_
      rw [show View.readAt (Elt F) arg3.view _ (harg3.unread x0) = x0 from (load_whole2 arg3.view _ _).trans hf0,
        show View.readAt (Elt F) arg4.view _ (harg4.unread x1) = x1 from (load_whole2 arg4.view _ _).trans hf1,
        show View.readAt (Elt F) arg8.view _ (harg8.unread x5) = x5 from (load_whole2 arg8.view _ _).trans hf5]
    obtain ⟨eS, eC, eN⟩ := state_all Variants.none c none i arg3 harg3 arg4 harg4 arg5 harg5 arg6 harg6 arg7 harg7 arg8 harg8 hc0
      (harg5.unread x2) f3 (arg8.view.writes (Elt F) arg8.view.junk (run_B.sl.H5_1 c i arg3 harg3 arg4 harg4 arg8 harg8 x0 x1 x5)) _ _ hA hf2
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      exact eC
    isplitl [H4]
    · iexists _; isplitr; swap; · iexact H4
      ipureintro
      exact (read_whole3 arg7.view _ _ _).trans (congrArg k0_pay8 eS)
    iexists _; isplitr; swap; · iexact H5
    ipureintro
    rw [View.writes_append]
    exact eN

end Cert.KernelIdeal.Value
end
-- ==== Proof.Run.lean ====
/-
  THE KERNEL'S RUN. The third output's buffer carries the sum over the contraction steps from point to point (`acc`); the
  two other outputs are written at the last step only. From the body's two cases (`run_A`, `run_B`) follow the body
  obligation at every point, the launch, and the frame of the program.
-/
module

public import proofs.«01_k».proof.Proof.Body
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The last coordinate of point `t` is `t mod 15`: the contraction step. -/
theorem coord2 (t : Fin cfg0.N) : (grid0.coords t 2).val = t.val % 15 := by
  have e2 : (grid0.coords t 2).val = t.val / 1 % 15 := Pipeline.Grid.coords_val t 2 (by decide) rfl
  rw [e2, Nat.div_one]

/-- The block is quantized at the last of the 15 contraction steps. -/
theorem last_iff : ∀ t : Fin cfg0.N, k0_cond1 (grid0.coords t) = 1#1 ↔ t.val % 15 = 14 :=
  (fun t => by
    have ht : t.val < 480 := Nat.lt_of_lt_of_eq t.isLt N_0
    have e0 : (grid0.coords t 0).val = t.val / 120 % 4 := Pipeline.Grid.coords_val t 0 (by decide) rfl
    have e1 : (grid0.coords t 1).val = t.val / 15 % 8 := Pipeline.Grid.coords_val t 1 (by decide) rfl
    have e2 : (grid0.coords t 2).val = t.val / 1 % 15 := Pipeline.Grid.coords_val t 2 (by decide) rfl
    simp only [k0_cond1, e0, e1, e2]
    word_cmp
   : ∀ t : Fin grid0.N, k0_cond1 (grid0.coords t) = 1#1 ↔ t.val % 15 = 14)

/-- The inputs and the third output are touched at every point; -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_5 (t : Fin cfg0.N) : cfg0.idle 5 (grid0.coords t) = false := rfl
/-- the codes and the scales are left alone except at the last step. -/
theorem idle_3 (t : Fin cfg0.N) (h : ¬ t.val % 15 = 14) : cfg0.idle 3 (grid0.coords t) = true := by
  show (!(k0_cond1 (grid0.coords t) == 1#1)) = true
  rw [Bool.not_eq_true', beq_eq_false_iff_ne]; exact fun hc => h ((last_iff t).mp hc)
theorem idle_4 (t : Fin cfg0.N) (h : ¬ t.val % 15 = 14) : cfg0.idle 4 (grid0.coords t) = true := idle_3 t h
theorem live_3 (t : Fin cfg0.N) (h : t.val % 15 = 14) : cfg0.idle 3 (grid0.coords t) = false := by
  show (!(k0_cond1 (grid0.coords t) == 1#1)) = false
  rw [(last_iff t).mpr h]; rfl
theorem live_4 (t : Fin cfg0.N) (h : t.val % 15 = 14) : cfg0.idle 4 (grid0.coords t) = false := live_3 t h

/-- At the first contraction step the accumulator's earlier contents do not matter. -/
theorem first_step (i : grid0.Coords) (h : (i 2).val = 0) (x : Vec F S1024x2048 .bf16) (y : Vec F S1024x1024 .bf16) (p q : Vec F S2048x1024 .f32) :
    k0_pay1 i x y p = k0_pay1 i x y q := by
  unfold k0_pay1
  simp only [h]
  rfl

/-! ## The sum carried from point to point -/

/-- The accumulator after point `n`: one step of the body over the accumulator after the point before. -/
def acc (c : Dev nD) : (n : ℕ) → n < cfg0.N → FVec F S2048x1024 .f32
  | 0, h => k0_pay1 (grid0.coords ⟨0, h⟩) (iblk m c 0 ⟨0, h⟩) (iblk m c 1 ⟨0, h⟩) (fun _ => Scalar.ofBits .f32 0#32)
  | n + 1, h => k0_pay1 (grid0.coords ⟨n + 1, h⟩) (iblk m c 0 ⟨n + 1, h⟩) (iblk m c 1 ⟨n + 1, h⟩) (acc c n (by omega))

/-- One step of it: from anything at a first contraction step, from the sum after the point before elsewhere. -/
theorem acc_step (c : Dev nD) (t : Fin cfg0.N) (p : FVec F S2048x1024 .f32)
    (hp : ¬ t.val % 15 = 0 → p = acc m c (t.val - 1) (by have := t.isLt; omega)) :
    k0_pay1 (grid0.coords t) (iblk m c 0 t) (iblk m c 1 t) p = acc m c t.val t.isLt := by
  obtain ⟨n, hn⟩ := t
  by_cases h0 : n % 15 = 0
  · cases n with
    | zero => rw [acc]; exact first_step _ (coord2 _) _ _ _ _
    | succ n => rw [acc]; exact first_step _ ((coord2 _).trans h0) _ _ _ _
  · rw [hp h0]
    cases n with
    | zero => exact absurd rfl h0
    | succ n => rw [acc]; rfl

/-! ## The pipeline's proof data -/

/-- What the third output's buffer holds after point `t`: the sum so far, and after a last step the new error. -/
def errAt (c : Dev nD) (t : Fin cfg0.N) : FVec F S2048x1024 .f32 :=
  if t.val % 15 = 14 then newErrB (acc m c t.val t.isLt) (iblk m c 2 t) else acc m c t.val t.isLt

/-- The arrays as the launch finds them; after the body at point `t` the inputs' buffers at their blocks, the outputs' at
    the codes, the scale table and `errAt` of the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesB (acc m c t.val t.isLt) (iblk m c 2 t)
    | ⟨4, _⟩ => k0_pay8 (scalesUpTo (acc m c t.val t.isLt) (iblk m c 2 t) 128)
    | ⟨5, _⟩ => errAt m c t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesB (acc m c t.val t.isLt) (iblk m c 2 t) := by dsimp only [dats]
theorem after0_4 (c : Dev nD) (t : Fin cfg0.N) : (dats m 0 c).after 4 t = k0_pay8 (scalesUpTo (acc m c t.val t.isLt) (iblk m c 2 t) 128) := by dsimp only [dats]
theorem after0_5 (c : Dev nD) (t : Fin cfg0.N) : (dats m 0 c).after 5 t = errAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The third output's buffer holds, past a first contraction step, the sum after the point before. -/
theorem before0_5 (c : Dev nD) (t : Fin cfg0.N) (d) (h : ¬ t.val % 15 = 0) :
    (dats m 0 c).before 5 t d = acc m c (t.val - 1) (by have := t.isLt; omega) := by
  rw [(dats m 0 c).before_of_pos 5 t (fun h0 => h (by rw [h0])) rfl d]
  have hf : ¬ (cfg0.win 5).flush ⟨t.val - 1, Nat.lt_of_le_of_lt (Nat.sub_le _ _) t.isLt⟩ = true := fun hf => by
    have := (flush0_5 _).mp hf
    dsimp only at this
    omega
  rw [if_neg hf]
  unfold Dat.left
  rw [live_5]
  show (dats m 0 c).kept 5 _ d = _
  unfold Dat.kept
  rw [after0_5]
  unfold errAt
  rw [if_neg (by dsimp only; omega)]
  rfl

/-! ## The body obligation -/

/-- Each window's current buffer at point `t`. -/
abbrev ms0_0 (t : Fin cfg0.N) : Memref sig .tc .vmem S1024x2048 .bf16 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S2048x1024 .f32 := win0_2.stage (cfg0.slots t 2)
abbrev ms0_3 (t : Fin cfg0.N) : Memref sig .tc .vmem S2048x1024 .i8 := win0_3.stage (cfg0.slots t 3)
abbrev ms0_4 (t : Fin cfg0.N) : Memref sig .tc .vmem S1x16x128 .f32 := win0_4.stage (cfg0.slots t 4)
abbrev ms0_5 (t : Fin cfg0.N) : Memref sig .tc .vmem S2048x1024 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- At a point that touches a window, the body leaves `after` in its buffer. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 800000 in
/-- The body at any point, by cases on whether it is a last contraction step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    leaves_live m c 0 t (live_0 t), leaves_live m c 1 t (live_1 t), leaves_live m c 2 t (live_2 t), leaves_live m c 5 t (live_5 t),
    after0_0, after0_1, after0_2, after0_5]
  have hacc : ∀ d, k0_pay1 (grid0.coords t) (iblk m c 0 t) (iblk m c 1 t) ((dats m 0 c).before 5 t d) = acc m c t.val t.isLt :=
    fun d => acc_step m c t _ fun h => before0_5 m c t d h
  by_cases h0 : t.val % 15 = 14
  · rw [leaves_live m c 3 t (live_3 t h0), leaves_live m c 4 t (live_4 t h0), after0_3, after0_4,
      show errAt m c t = newErrB (acc m c t.val t.isLt) (iblk m c 2 t) from if_pos h0]
    iintro ⟨HΦ, Ho, ⟨%d0, H0⟩, ⟨%d1, H1⟩, ⟨%d2, H2⟩, ⟨%d3, H3⟩, ⟨%d4, H4⟩, ⟨%d5, H5⟩⟩
    rw [← hacc d5]
    iapply (run_B c (grid0.coords t) _ _ _ _ _ _ _ _ _ _ _ _ ((last_iff t).mpr h0) (iblk m c 0 t) (iblk m c 1 t) (iblk m c 2 t)
      ((dats m 0 c).before 3 t d3) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hf3 : (cfg0.win 3).flush t = false := by
      rw [Bool.eq_false_iff]; exact fun h => h0 ((flush0_3 t).mp h)
    have hf4 : (cfg0.win 4).flush t = false := by
      rw [Bool.eq_false_iff]; exact fun h => h0 ((flush0_4 t).mp h)
    rw [(dats m 0 c).leavesExact_idle 3 t (idle_3 t h0) hf3, (dats m 0 c).leavesExact_idle 4 t (idle_4 t h0) hf4,
      show errAt m c t = acc m c t.val t.isLt from if_neg h0]
    iintro ⟨HΦ, Ho, ⟨%d0, H0⟩, ⟨%d1, H1⟩, ⟨%d2, H2⟩, ⟨%d3, H3⟩, ⟨%d4, H4⟩, ⟨%d5, H5⟩⟩
    rw [← hacc d5]
    iapply (run_A c (grid0.coords t) _ _ _ _ _ _ _ _ _ _ _ _ (fun h => h0 ((last_iff t).mp h)) (iblk m c 0 t) (iblk m c 1 t) (iblk m c 2 t)
      ((dats m 0 c).before 3 t d3) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexists d3; iexact H3
    isplitl [H4]; · iexists d4; iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
set_option maxHeartbeats 800000 in
/-- THE LAUNCH: every weakly fair execution terminates; every final state has the pipeline's arrays at what the proof data
    says and every other buffer at what the host lines after the region leave; every semaphore counter is zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the argument arrays end unchanged and every semaphore counter is zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Value
end
-- ==== Proof.KernelFrame.lean ====
/-
  THE KERNEL'S FRAME. No operation was rewritten, so the kernel and the ideal kernel are one program at every instance of the
  floats: the frame that `Run.lean` proves of the ideal kernel, at any floats, is the kernel's.
-/
module

public import proofs.«01_k».proof.Proof.Run
public import proofs.«01_k».proof.Proof.Gen.Kernel

@[expose] public section

set_option maxRecDepth 16384

noncomputable section

namespace Cert.Kernel.Value

open Cert.Kernel Cert.Kernel.Gen
open Idealize.ShloMosaic Idealize.ShloMosaic.TcCoe Idealize.SL.Sem

variable {F : FTy → Type} [FloatOps F]

/-- The two programs have the same body of the call, -/
theorem body_eq : @Cert.Kernel.cc0_wgrad_int8 F _ _ = @Cert.KernelIdeal.cc0_wgrad_int8 F _ _ := rfl

/-- so the same table of bodies, -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- the same table with the call's pipeline, -/
theorem defs_eq : Cert.Kernel.defs (F := F) = Cert.KernelIdeal.defs (F := F) := by
  unfold Cert.Kernel.defs Cert.KernelIdeal.defs
  exact congrArg (Pipeline.defs _) defs₀_eq

/-- and the same @main. -/
theorem main_eq : Cert.Kernel.main (F := F) = Cert.KernelIdeal.main (F := F) := rfl

variable (m : (ℓ : Loc nD τ sig) → Buf (Elt F) ℓ) (ρ : Dev nD → PrngReg)

/-- THE FRAME: the argument arrays end unchanged and every semaphore counter is zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.KernelIdeal.Value.frame_holds m ρ

end Cert.Kernel.Value

end
-- ==== Proof.Quantize.lean ====
module

public import Idealize.ShloMosaic.Lib.Pipeline.ValueKit
public import Idealize.ShloMosaic.Lib.Pointwise

/-!
# The quantisation as mathematics

The numbers both programs are to compute, over the extended reals, as plain functions of the three
arguments: the value `val` (the gradient plus the error), the largest magnitude of a 128 by 128
square, its scale, the integer a value is rounded to, and the three results. Also the one arithmetic
fact the two programs differ by: a code read back as a number is the number it was rounded to.
-/

@[expose] public section

set_option maxRecDepth 16384

noncomputable section

namespace Cert.Quant

open Idealize.ShloMosaic Idealize.ShloMosaic.Tactic

/-- The constant `127`. -/
theorem word_127 : Ideal.ofBits .f32 1123942400#32 = ((127 : ℝ) : EReal) := by
  simp [Ideal.ofBits, Ideal.ieee]
  rw [← EReal.coe_mul]
  norm_num

/-- The constant `-127`. -/
theorem word_neg_127 : Ideal.ofBits .f32 3271426048#32 = ((-127 : ℝ) : EReal) := by
  simp [Ideal.ofBits, Ideal.ieee]
  rw [← EReal.coe_mul]
  norm_num

/-- A value over its scale, rounded to the nearest integer (ties to even) and held within `±127`. -/
def quant (v s : EReal) : EReal :=
  min (Ideal.ofBits .f32 1123942400#32) (max (Ideal.ofBits .f32 3271426048#32)
    (Ideal.liftRound Ideal.roundHalfEven (Ideal.div v s)))

/-- The rounded value is an integer between `-127` and `127`, whatever the value and the scale. -/
theorem quant_int (v s : EReal) : ∃ n : ℤ, -127 ≤ n ∧ n ≤ 127 ∧ quant v s = ((n : ℝ) : EReal) := by
  unfold quant
  rw [word_127, word_neg_127]
  generalize Ideal.div v s = z
  induction z with
  | bot =>
    refine ⟨-127, by omega, by omega, ?_⟩
    rw [Ideal.liftRound_bot, max_eq_left bot_le, min_eq_right (by norm_cast)]
    norm_num
  | top =>
    refine ⟨127, by omega, by omega, ?_⟩
    rw [Ideal.liftRound_top, max_eq_right le_top, min_eq_left le_top]
    norm_num
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- A rounded value converted to an eight-bit integer and back to a number is that rounded value. -/
theorem quant_round_trip (v s : EReal) :
    FloatOps.sitofp (F := Ideal) .f32 (FloatOps.fptosi (F := Ideal) (φ := .f32) 8 (quant v s)) = quant v s := by
  obtain ⟨n, h0, h1, h⟩ := quant_int v s
  rw [h]
  show (((Ideal.fptosi 8 ((n : ℝ) : EReal)).toInt : ℝ) : EReal) = _
  have e : Ideal.fptosi 8 ((n : ℝ) : EReal) = BitVec.ofInt 8 n := by
    unfold Ideal.fptosi
    congr 1
    rw [Ideal.toIntClamped_coe]
    have : (if (0 : ℝ) ≤ (n : ℝ) then ⌊(n : ℝ)⌋ else ⌈(n : ℝ)⌉) = n := by
      rw [Int.floor_intCast, Int.ceil_intCast, ite_self]
    rw [this]
    norm_num
    omega
  rw [e, BitVec.toInt_ofInt, Int.bmod_def]
  norm_num
  norm_cast
  omega

variable (x y : FVec Ideal ⟨2, ![15360, 8192]⟩ .bf16) (e : FVec Ideal ⟨2, ![8192, 8192]⟩ .f32)

/-- The value at row `r`, column `c`: the inner product of column `r` of `x` and column `c` of `y`,
plus the error there. -/
def val (r c : Fin 8192) : EReal := (∑ k : Fin 15360, x (ix2 k r) * y (ix2 k c)) + e (ix2 r c)

/-- The largest magnitude of the values in square `(p, q)`, a square being 128 rows by 128 columns. -/
def amax (p q : Fin 64) : EReal :=
  Finset.fold max (Ideal.ofBits .f32 4286578688#32)
    (fun s : Fin 128 × Fin 128 => FloatOps.absf (F := Ideal) (φ := .f32)
      (val x y e ⟨p.val * 128 + s.1.val, by omega⟩ ⟨q.val * 128 + s.2.val, by omega⟩)) Finset.univ

/-- The scale of a square whose largest magnitude is `a`: `a / 127`, and one where `a` is zero. -/
def scaleOf (a : EReal) : EReal := if a = 0 then 1 else Ideal.div a (Ideal.ofBits .f32 1123942400#32)

/-- The scale of square `(p, q)`. -/
def scale (p q : Fin 64) : EReal := scaleOf (amax x y e p q)

/-- The scale of the square that holds row `r`, column `c`. -/
def scaleAt (r c : Fin 8192) : EReal := scale x y e ⟨r.val / 128, by omega⟩ ⟨c.val / 128, by omega⟩

/-- The codes: each value over its square's scale, rounded, as an eight-bit integer. -/
def codes : Vec Ideal ⟨2, ![8192, 8192]⟩ .i8 :=
  fun i => FloatOps.fptosi (F := Ideal) (φ := .f32) 8 (quant (val x y e (i 0) (i 1)) (scaleAt x y e (i 0) (i 1)))

/-- The scales of all squares. -/
def scales : Vec Ideal ⟨2, ![64, 64]⟩ .f32 := fun i => scale x y e (i 0) (i 1)

/-- The new error: each value less its rounded multiple of the scale. -/
def newErr : Vec Ideal ⟨2, ![8192, 8192]⟩ .f32 :=
  fun i => val x y e (i 0) (i 1)
    - quant (val x y e (i 0) (i 1)) (scaleAt x y e (i 0) (i 1)) * scaleAt x y e (i 0) (i 1)

/-- The three results at coordinates. -/
theorem codes_at (r c : Fin 8192) : codes x y e (ix2 r c)
    = FloatOps.fptosi (F := Ideal) (φ := .f32) 8 (quant (val x y e r c) (scaleAt x y e r c)) := rfl
theorem scales_at (p q : Fin 64) : scales x y e (ix2 p q) = scale x y e p q := rfl
theorem newErr_at (r c : Fin 8192) : newErr x y e (ix2 r c)
    = val x y e r c - quant (val x y e r c) (scaleAt x y e r c) * scaleAt x y e r c := rfl

end Cert.Quant

end
-- ==== Proof.Sum.lean ====
/-
  THE ACCUMULATED SUM. At the extended reals, after the last contraction step of a block the accumulator holds the whole
  inner products of the block's columns; with the block of the third argument added, the values the quantisation is of.
-/
module

public import proofs.«01_k».proof.Proof.Run
public import proofs.«01_k».proof.Proof.Quantize

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The three arguments. -/
abbrev argX : FVec Ideal ⟨2, ![15360, 8192]⟩ .bf16 := m ((c : Thread nD τ).loc main_arg0)
abbrev argY : FVec Ideal ⟨2, ![15360, 8192]⟩ .bf16 := m ((c : Thread nD τ).loc main_arg1)
abbrev argE : FVec Ideal ⟨2, ![8192, 8192]⟩ .f32 := m ((c : Thread nD τ).loc main_arg2)

/-! ## Where the blocks lie -/

theorem coord0 (t : Fin cfg0.N) : (grid0.coords t 0).val = t.val / 120 % 4 := Pipeline.Grid.coords_val t 0 (by decide) rfl
theorem coord1 (t : Fin cfg0.N) : (grid0.coords t 1).val = t.val / 15 % 8 := Pipeline.Grid.coords_val t 1 (by decide) rfl

/-- A grid coordinate survives being held in a 32-bit word. -/
theorem word_coord (n : ℕ) (h : n < 4294967296) : (BitVec.ofNat 32 n).toNat = n := by
  rw [BitVec.toNat_ofNat]; exact Nat.mod_eq_of_lt h

theorem word0 (t : Fin cfg0.N) : (BitVec.ofNat 32 (grid0.coords t 0).val).toNat = t.val / 120 % 4 := by
  rw [coord0, word_coord _ (by omega)]
theorem word1 (t : Fin cfg0.N) : (BitVec.ofNat 32 (grid0.coords t 1).val).toNat = t.val / 15 % 8 := by
  rw [coord1, word_coord _ (by omega)]
theorem word2 (t : Fin cfg0.N) : (BitVec.ofNat 32 (grid0.coords t 2).val).toNat = t.val % 15 := by
  rw [coord2, word_coord _ (by omega)]

theorem idx0 (t : Fin cfg0.N) : win0_0.index t = ![t.val % 15, t.val / 120 % 4] := by
  show cc0_transform_0 (grid0.coords t) = _
  unfold cc0_transform_0; dsimp only; rw [word0, word2]
theorem idx1 (t : Fin cfg0.N) : win0_1.index t = ![t.val % 15, t.val / 15 % 8] := by
  show cc0_transform_1 (grid0.coords t) = _
  unfold cc0_transform_1; dsimp only; rw [word1, word2]
theorem idx2 (t : Fin cfg0.N) : win0_2.index t = ![t.val / 120 % 4, t.val / 15 % 8] := by
  show cc0_transform_2 (grid0.coords t) = _
  unfold cc0_transform_2; dsimp only; rw [word0, word1]
theorem idx3 (t : Fin cfg0.N) : win0_3.index t = ![t.val / 120 % 4, t.val / 15 % 8] := by
  show cc0_transform_3 (grid0.coords t) = _
  unfold cc0_transform_3; dsimp only; rw [word0, word1]
theorem idx4 (t : Fin cfg0.N) : win0_4.index t = ![t.val / 15 % 8, t.val / 120 % 4, 0] := by
  show cc0_transform_4 (grid0.coords t) = _
  unfold cc0_transform_4; dsimp only; rw [word0, word1]; rfl
theorem idx5 (t : Fin cfg0.N) : win0_5.index t = ![t.val / 120 % 4, t.val / 15 % 8] := by
  show cc0_transform_5 (grid0.coords t) = _
  unfold cc0_transform_5; dsimp only; rw [word0, word1]

/-- The blocks of the arguments, at coordinates. -/
theorem blkX (t : Fin cfg0.N) (a : Fin 1024) (b : Fin 2048) :
    (iblk m c 0 t : FVec Ideal S1024x2048 .bf16) (ix2 a b)
      = argX m c (ix2 ⟨t.val % 15 * 1024 + a.val, by omega⟩ ⟨t.val / 120 % 4 * 2048 + b.val, by omega⟩) := by
  blk_ext [iblk, V, idx0 t]
theorem blkY (t : Fin cfg0.N) (a : Fin 1024) (b : Fin 1024) :
    (iblk m c 1 t : FVec Ideal S1024x1024 .bf16) (ix2 a b)
      = argY m c (ix2 ⟨t.val % 15 * 1024 + a.val, by omega⟩ ⟨t.val / 15 % 8 * 1024 + b.val, by omega⟩) := by
  blk_ext [iblk, V, idx1 t]
theorem blkE (t : Fin cfg0.N) (a : Fin 2048) (b : Fin 1024) :
    (iblk m c 2 t : FVec Ideal S2048x1024 .f32) (ix2 a b)
      = argE m c (ix2 ⟨t.val / 120 % 4 * 2048 + a.val, by omega⟩ ⟨t.val / 15 % 8 * 1024 + b.val, by omega⟩) := by
  blk_ext [iblk, V, idx2 t]

/-! ## The sum -/

/-- What one contraction step adds: the inner products of the two blocks' columns. -/
def part (x : FVec Ideal S1024x2048 .bf16) (y : FVec Ideal S1024x1024 .bf16) (j : S2048x1024.Idx) : EReal :=
  ∑ q : Fin 1024, x (ix2 q (j 0)) * y (ix2 q (j 1))

theorem part_at (x : FVec Ideal S1024x2048 .bf16) (y : FVec Ideal S1024x1024 .bf16) (a : Fin 2048) (b : Fin 1024) :
    part x y (ix2 a b) = ∑ q : Fin 1024, x (ix2 q a) * y (ix2 q b) := rfl

/-- The body's step at coordinates: the part alone at a first contraction step, added to the accumulator elsewhere. -/
theorem pay1_at (i : grid0.Coords) (x : FVec Ideal S1024x2048 .bf16) (y : FVec Ideal S1024x1024 .bf16)
    (p : FVec Ideal S2048x1024 .f32) (j : S2048x1024.Idx) :
    k0_pay1 (F := Ideal) i x y p j = if (i 2).val = 0 then part x y j else p j + part x y j := by
  idx_vars j
  pointwise [k0_pay1]
  have h2 : (i 2).val < 15 := (i 2).isLt
  unfold part
  by_cases h : (i 2).val = 0
  · rw [if_pos h, h]; rfl
  · rw [if_neg h]
    have e : Scalar.cmpi .eq (BitVec.ofNat 32 (i 2).val) 0#32 = 0#1 :=
      (WordCmp.cmpi_eq_ofNat_eq_zero_iff (w := 32) (b := 0) (by omega) (by decide)).mpr h
    rw [e]; rfl

/-- After a block's last contraction step the accumulator holds the inner products over all 15360 rows. -/
theorem acc_last (t : Fin cfg0.N) (ht : t.val % 15 = 14) (a : Fin 2048) (b : Fin 1024) :
    acc m c t.val t.isLt (ix2 a b)
      = ∑ k : Fin 15360, argX m c (ix2 k ⟨t.val / 120 % 4 * 2048 + a.val, by omega⟩)
          * argY m c (ix2 k ⟨t.val / 15 % 8 * 1024 + b.val, by omega⟩) := by
  have hlt : t.val < 480 := Nat.lt_of_lt_of_eq t.isLt N_0
  rw [Pipeline.eq_sum_fin_of_reset_step_apply_of_flush (fun n h => acc m c n h) 15 (fun _ => (0 : EReal))
    (fun t j => part (iblk m c 0 t) (iblk m c 1 t) j)
    (fun t h j => by
      rw [← acc_step m c t (fun _ => (0 : EReal)) (fun h' => absurd h h'), pay1_at, if_pos ((coord2 t).trans h), zero_add])
    (fun t h j => by
      rw [← acc_step m c t (acc m c (t.val - 1) (by have := t.isLt; omega)) (fun _ => rfl), pay1_at,
        if_neg (fun h' => h ((coord2 t).symm.trans h'))])
    t ht (ix2 a b), zero_add]
  simp only [part_at]
  refine Fin.sum_mul_add_congr fun s k hl => ?_
  rw [blkX, blkY]
  congr 3 <;> apply Fin.ext <;> dsimp only <;> omega

end Cert.KernelIdeal.Value

end
-- ==== Proof.Arrays.lean ====
/-
  WHAT THE ARRAYS HOLD. At the extended reals the kernel's three result arrays hold the codes, the scales and the new error
  of `Quantize.lean`, of the three arguments: the payloads at coordinates, the squares of a block, then each array from its
  written-back blocks, and the scales once more through the host's slice, transpose and reshape.
-/
module

public import proofs.«01_k».proof.Proof.Sum

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open Idealize.ShloMosaic.Pipeline (Dat Cfg Window)

/-! ## The payloads at coordinates -/

/-- The value of a square: the sum of the two. -/
theorem pay9_at (v w : FVec Ideal S128x128 .f32) (a b : Fin 128) :
    k0_pay9 (F := Ideal) v w (ix2 a b) = v (ix2 a b) + w (ix2 a b) := by
  pointwise [k0_pay9]

/-- The largest magnitude of a square's values. -/
theorem pay10_at (v w : FVec Ideal S128x128 .f32) :
    k0_pay10 (F := Ideal) v w (ix3 0 0 0) = Finset.fold max (Ideal.ofBits .f32 4286578688#32)
      (fun s : Fin 128 × Fin 128 => FloatOps.absf (F := Ideal) (φ := .f32) (v (ix2 s.1 s.2) + w (ix2 s.1 s.2))) Finset.univ := by
  pointwise [k0_pay10, k0_pay9]

/-- The scale of a square. -/
theorem pay3_at (M : FVec Ideal S1x1x1 .f32) : k0_pay3 (F := Ideal) M (ix2 0 0) = Quant.scaleOf (M (ix3 0 0 0)) := by
  pointwise [k0_pay3]
  rfl

/-- The codes of a square. -/
theorem pay5_at (v : FVec Ideal S128x128 .f32) (M : FVec Ideal S1x1x1 .f32) (a b : Fin 128) :
    k0_pay5 (F := Ideal) v M (ix2 a b)
      = FloatOps.fptosi (F := Ideal) (φ := .f32) 8 (Quant.quant (v (ix2 a b)) (Quant.scaleOf (M (ix3 0 0 0)))) := by
  rw [← pay3_at]
  pointwise [k0_pay5, k0_pay4]
  rfl

/-- The new error of a square. -/
theorem pay6_at (v : FVec Ideal S128x128 .f32) (M : FVec Ideal S1x1x1 .f32) (a b : Fin 128) :
    k0_pay6 (F := Ideal) v M (ix2 a b)
      = v (ix2 a b) - Quant.quant (v (ix2 a b)) (Quant.scaleOf (M (ix3 0 0 0))) * Quant.scaleOf (M (ix3 0 0 0)) := by
  rw [← pay3_at]
  pointwise [k0_pay6, k0_pay5, k0_pay4]
  rfl

/-- The scale table under a unit axis. -/
theorem pay8_at (v : FVec Ideal S16x128 .f32) (a : Fin 16) (b : Fin 128) :
    k0_pay8 (F := Ideal) v (ix3 0 a b) = v (ix2 a b) := by
  pointwise [k0_pay8]

/-! ## The squares of a block at its last step -/

variable (m : (ℓ : Loc nD τ sig) → Buf (Elt Ideal) ℓ) (c : Dev nD)

/-- The value, the scale of a square and of a place, of the launch's arguments. -/
abbrev valK (r s : Fin 8192) : EReal := Quant.val (argX m c) (argY m c) (argE m c) r s
abbrev amaxK (p q : Fin 64) : EReal := Quant.amax (argX m c) (argY m c) (argE m c) p q
abbrev scaleK (p q : Fin 64) : EReal := Quant.scale (argX m c) (argY m c) (argE m c) p q
abbrev scaleAtK (r s : Fin 8192) : EReal := Quant.scaleAt (argX m c) (argY m c) (argE m c) r s

section Block
variable (t : Fin cfg0.N)

/-- The accumulator plus the error's block is the value at the block's place in the array. -/
theorem val_at (ht : t.val % 15 = 14) (a : Fin 2048) (b : Fin 1024) :
    acc m c t.val t.isLt (ix2 a b) + (iblk m c 2 t : FVec Ideal S2048x1024 .f32) (ix2 a b)
      = valK m c ⟨t.val / 120 % 4 * 2048 + a.val, by omega⟩ ⟨t.val / 15 % 8 * 1024 + b.val, by omega⟩ := by
  rw [acc_last m c t ht, blkE]; rfl

/-- The value of square (p, q) of the block at (a, b) inside it. -/
theorem tileV_at (ht : t.val % 15 = 14) (p : Fin 16) (q : Fin 8) (a b : Fin 128) :
    tileV (acc m c t.val t.isLt) (iblk m c 2 t) p q (ix2 a b)
      = valK m c ⟨t.val / 120 % 4 * 2048 + (p.val * 128 + a.val), by omega⟩
          ⟨t.val / 15 % 8 * 1024 + (q.val * 128 + b.val), by omega⟩ := by
  unfold tileV
  rw [pay9_at]
  exact val_at m c t ht ⟨p.val * 128 + a.val, by omega⟩ ⟨q.val * 128 + b.val, by omega⟩

/-- The largest magnitude of square (p, q) of the block is that of the array's square there. -/
theorem tileM_at (ht : t.val % 15 = 14) (p : Fin 16) (q : Fin 8) :
    tileM (acc m c t.val t.isLt) (iblk m c 2 t) p q (ix3 0 0 0)
      = amaxK m c ⟨t.val / 120 % 4 * 16 + p.val, by omega⟩ ⟨t.val / 15 % 8 * 8 + q.val, by omega⟩ := by
  unfold tileM
  rw [pay10_at]
  unfold amaxK Quant.amax
  congr 1
  funext s
  refine congrArg (FloatOps.absf (F := Ideal) (φ := .f32)) ?_
  refine (val_at m c t ht ⟨p.val * 128 + s.1.val, by omega⟩ ⟨q.val * 128 + s.2.val, by omega⟩).trans ?_
  congr 1 <;> apply Fin.ext <;> dsimp only <;> omega

/-- The square that holds a place of the block, read at that place, is the value there; -/
theorem place_val (ht : t.val % 15 = 14) (a : Fin 2048) (b : Fin 1024) :
    tileV (acc m c t.val t.isLt) (iblk m c 2 t) ⟨a.val / 128, by omega⟩ ⟨b.val / 128, by omega⟩
        (ix2 ⟨a.val % 128, by omega⟩ ⟨b.val % 128, by omega⟩)
      = valK m c ⟨t.val / 120 % 4 * 2048 + a.val, by omega⟩ ⟨t.val / 15 % 8 * 1024 + b.val, by omega⟩ := by
  rw [tileV_at m c t ht]
  congr 1 <;> apply Fin.ext <;> dsimp only <;> omega

/-- and its scale is the scale there. -/
theorem place_scale (ht : t.val % 15 = 14) (a : Fin 2048) (b : Fin 1024) :
    Quant.scaleOf (tileM (acc m c t.val t.isLt) (iblk m c 2 t) ⟨a.val / 128, by omega⟩ ⟨b.val / 128, by omega⟩ (ix3 0 0 0))
      = scaleAtK m c ⟨t.val / 120 % 4 * 2048 + a.val, by omega⟩ ⟨t.val / 15 % 8 * 1024 + b.val, by omega⟩ := by
  rw [tileM_at m c t ht]
  unfold scaleAtK Quant.scaleAt Quant.scale
  congr 2 <;> apply Fin.ext <;> dsimp only <;> omega

/-- A block's codes are those of the whole array at the block's place, -/
theorem codesB_at (ht : t.val % 15 = 14) (a : Fin 2048) (b : Fin 1024) :
    codesB (acc m c t.val t.isLt) (iblk m c 2 t) (ix2 a b)
      = Quant.codes (argX m c) (argY m c) (argE m c)
          (ix2 ⟨t.val / 120 % 4 * 2048 + a.val, by omega⟩ ⟨t.val / 15 % 8 * 1024 + b.val, by omega⟩) := by
  rw [Quant.codes_at]
  show _ = FloatOps.fptosi (F := Ideal) (φ := .f32) 8 (Quant.quant (valK m c _ _) (scaleAtK m c _ _))
  rw [← place_val m c t ht, ← place_scale m c t ht]
  exact pay5_at _ _ _ _

/-- and so are its new errors. -/
theorem newErrB_at (ht : t.val % 15 = 14) (a : Fin 2048) (b : Fin 1024) :
    newErrB (acc m c t.val t.isLt) (iblk m c 2 t) (ix2 a b)
      = Quant.newErr (argX m c) (argY m c) (argE m c)
          (ix2 ⟨t.val / 120 % 4 * 2048 + a.val, by omega⟩ ⟨t.val / 15 % 8 * 1024 + b.val, by omega⟩) := by
  rw [Quant.newErr_at]
  show _ = valK m c _ _ - Quant.quant (valK m c _ _) (scaleAtK m c _ _) * scaleAtK m c _ _
  rw [← place_val m c t ht, ← place_scale m c t ht]
  exact pay6_at _ _ _ _

/-- The scale table of a block: in its first eight lanes the scales of the block's squares, zero in the others. -/
theorem scalesB_at (ht : t.val % 15 = 14) (a : Fin 16) (b : Fin 128) :
    k0_pay8 (scalesUpTo (acc m c t.val t.isLt) (iblk m c 2 t) 128) (ix3 0 a b)
      = if h : b.val < 8 then
          scaleK m c ⟨t.val / 120 % 4 * 16 + a.val, by omega⟩ ⟨t.val / 15 % 8 * 8 + b.val, by omega⟩
        else Ideal.ofBits .f32 0#32 := by
  rw [pay8_at, scalesUpTo_at]
  by_cases h : b.val < 8
  · rw [dif_pos ⟨h, by omega⟩, dif_pos h, pay3_at, tileM_at m c t ht]; rfl
  · rw [dif_neg (fun h' => h h'.1), dif_neg h]; rfl

end Block

/-! ## The arrays -/

/-- The first result array holds the codes. -/
theorem codes_arr : (dats m 0 c).arrAt 3 cfg0.N = Quant.codes (argX m c) (argY m c) (argE m c) := by
  refine (dats m 0 c).arrAt_eq_of_covers 3 _ (by decide +kernel) fun t hf y => ?_
  have ht := (flush0_3 t).mp hf
  blk_simp
  rw [after0_3]
  idx_vars y
  refine (codesB_at m c t ht _ _).trans ?_
  blk_ext [idx3 t]

/-- The third result array holds the new error. -/
theorem newErr_arr : (dats m 0 c).arrAt 5 cfg0.N = Quant.newErr (argX m c) (argY m c) (argE m c) := by
  refine (dats m 0 c).arrAt_eq_of_covers 5 _ (by decide +kernel) fun t hf y => ?_
  have ht := (flush0_5 t).mp hf
  blk_simp
  rw [after0_5]
  unfold errAt
  rw [if_pos ht]
  idx_vars y
  refine (newErrB_at m c t ht _ _).trans ?_
  blk_ext [idx5 t]

/-- The array of scale tables: table (j, r) holds in lane l the scale of square (r, 8 j + l) for l below eight, else zero. -/
def tables : Vec Ideal S8x64x128 .f32 := fun i =>
  if h : (i 2).val < 8 then
    scaleK m c (i 1) ⟨(i 0).val * 8 + (i 2).val, by have : (i 0).val < 8 := (i 0).isLt; omega⟩
  else Ideal.ofBits .f32 0#32

theorem tables_at (a : Fin 8) (b : Fin 64) (l : Fin 128) : tables m c (ix3 a b l)
    = if h : l.val < 8 then scaleK m c b ⟨a.val * 8 + l.val, by omega⟩ else Ideal.ofBits .f32 0#32 := rfl

/-- The second result array holds the scale tables. -/
theorem tables_arr : (dats m 0 c).arrAt 4 cfg0.N = tables m c := by
  refine (dats m 0 c).arrAt_eq_of_covers 4 _ (by decide +kernel) fun t hf y => ?_
  have ht := (flush0_4 t).mp hf
  blk_simp
  rw [after0_4]
  idx_vars y
  obtain rfl : y0 = 0 := Subsingleton.elim _ _
  have e : ((View.whole main_v0_1).slice (win0_4.rect t)).emb (ix3 (0 : Fin 1) y1 y2)
      = ix3 (⟨t.val / 15 % 8, by omega⟩ : Fin 8) (⟨t.val / 120 % 4 * 16 + y1.val, by omega⟩ : Fin 64) y2 := by
    blk_ext [idx4 t]
  rw [e, tables_at, scalesB_at m c t ht y1 y2]

/-! ## The scales after the host's slice, transpose and reshape -/

/-- The first eight lanes of the tables, the tables' axis moved between rows and lanes, the last two axes made one. -/
theorem scales_host :
    shapeCast (α := EReal) S64x64 (transpose S64x8x8 [1, 0, 2]
      (extractStridedSlice S8x64x8 ![0, 0, 0] (tables m c) slices_S8x64x128_S8x64x8_0_0_0) transposes_S8x64x8_S64x8x8_1_0_2)
      shapeCasts_S64x8x8_S64x64 = Quant.scales (argX m c) (argY m c) (argE m c) := by
  funext i
  idx_vars i
  pointwise []
  rw [tables_at, dif_pos (by dsimp only; omega), Quant.scales_at]
  show scaleK m c _ _ = scaleK m c _ _
  congr 1
  apply Fin.ext
  dsimp only
  omega

end Cert.KernelIdeal.Value

end
-- ==== Proof.Results.lean ====
/-
  THE KERNEL'S RESULTS. The run of `Run.lean` read at the three results: the codes, the scales (through the host's three
  operations after the kernel) and the new error of `Quantize.lean`, of the three arguments, which end unchanged.
-/
module

public import proofs.«01_k».proof.Proof.Arrays

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The array of tables, as the host operations after the kernel find it. -/
theorem tables_found (c : Dev nD) :
    Pipeline.withArrays (cfgs 0).spec c (V0 m c) (fun w => (dats m 0 c).arrAt w (cfgs 0).N)
      (Proc.devRef .tc main_v0_1) = tables m c :=
  (Pipeline.withArrays_arr (cfgs 0).spec (by decide) c _ _ 4).trans (tables_arr m c)

/-- What the host operations leave in the second result: the scales. -/
theorem scales_tail (c : Dev nD) :
    Pipeline.afterTail₀ cfgs (dats m) 0 (V0 m) [hostOps1] c main_v3 = Quant.scales (argX m c) (argY m c) (argE m c) := by
  unfold Pipeline.afterTail₀
  simp only [hostOps1, List.flatten_cons, List.flatten_nil, List.append_nil]
  after_results
  rw [tables_found]
  exact scales_host m c

/-- THE KERNEL'S RUN, READ. -/
theorem run : θ_run defs (onTc (τ := τ) (main (F := Ideal))) ⟨m, fun _ => 0, ρ⟩ (fun r => ∀ c : Dev nD,
      r.2.mem ((c.tc : Thread nD τ).loc main_v0_0) = Quant.codes (argX m c) (argY m c) (argE m c)
      ∧ r.2.mem ((c.tc : Thread nD τ).loc main_v3) = Quant.scales (argX m c) (argY m c) (argE m c)
      ∧ r.2.mem ((c.tc : Thread nD τ).loc main_v0_2) = Quant.newErr (argX m c) (argY m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (codes_arr m c),
      ((h.1 c).2 main_v3 (Pipeline.mem_restRefs_of main_v3 (by decide) (by decide))).trans (scales_tail m c),
      ((h.1 c).1 5).trans (newErr_arr m c), h.2 c⟩)
    (θ_run_and (run_main m ρ) (unchanged m ρ))

end Cert.KernelIdeal.Value

end
-- ==== Proof.Reference.lean ====
/-
  WHAT THE REFERENCE COMPUTES. At the extended reals the reference's three results are the codes, the scales and the new
  error of `Quantize.lean`, of its three arguments: the host operations give the values and the scales, the one-point call
  the codes and the new error.
-/
module

public import proofs.«01_k».proof.Proof.Quantize
public import proofs.«01_k».proof.Proof.Gen.ReferenceIdeal.Frame
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)

/-! ## The host's reduction of a square -/

/-- The indices of the four-axis array that drop to (p, q) are those with p on the first axis and q on the third. -/
theorem fiber (p q : Fin 64) (i : S64x128x64x128.Idx) :
    reducesTo_S64x128x64x128_S64x64_d1_3.drop i = ix2 p q ↔ ∃ s : Fin 128 × Fin 128, ix4 p s.1 q s.2 = i := by
  idx_vars i
  constructor
  · intro e
    have e0 : i0 = p := congrFun e 0
    have e1 : i2 = q := congrFun e 1
    exact ⟨(i1, i3), by rw [e0, e1]⟩
  · rintro ⟨s, e⟩
    rw [← e]
    funext b
    apply Fin.ext
    match b with
    | ⟨0, _⟩ => rfl
    | ⟨1, _⟩ => rfl

/-- The host's maximum over the second and fourth axes, as a fold over pairs. -/
theorem reduce_at (v : FVec Ideal S64x128x64x128 .f32) (w : FVec Ideal S_ .f32) (p q : Fin 64) :
    Host.reduce (FloatOps.maximumf (F := Ideal) (φ := .f32)) v w reducesTo_S64x128x64x128_S64x64_d1_3 h_S_ (ix2 p q)
      = Finset.fold (max : EReal → EReal → EReal) (w (Shape.Idx.first h_S_)) (fun s : Fin 128 × Fin 128 => v (ix4 p s.1 q s.2)) Finset.univ := by
  rw [Host.reduce_eq_fold]
  exact Finset.fold_filter_eq_fold_of_fiber _ _ (fun s : Fin 128 × Fin 128 => (ix4 p s.1 q s.2 : S64x128x64x128.Idx))
    (fun s s' e => Prod.ext (congrFun e 1) (congrFun e 3)) (fiber p q) _ _

/-! ## The host operations -/

section Host
variable {F : FTy → Type} [FloatOps F] (m : (ℓ : Loc nD τ sig) → Buf (Elt F) ℓ) (c : Dev nD)

/-- The array of values, as the host operations compute it, -/
def valsR : FVec F S8192x8192 .f32 :=
  addf ((((fun l r => Host.dotGeneral dot_S15360x8192_S15360x8192_S8192x8192_0_0_1_1_n_n none l r) : (⟨S15360x8192, .bf16⟩ : BufTy).Contents (Elt F) → (⟨S15360x8192, .bf16⟩ : BufTy).Contents (Elt F) → (⟨S8192x8192, .f32⟩ : BufTy).Contents (Elt F)))
    (m ((c : Thread nD τ).loc main_arg0)) (m ((c : Thread nD τ).loc main_arg1))) (m ((c : Thread nD τ).loc main_arg2))
/-- the squares' largest magnitudes of values `v`, -/
def amaxR (v : FVec F S8192x8192 .f32) : FVec F S64x64 .f32 :=
  Host.reduce (FloatOps.maximumf (F := F) (φ := .f32)) (Host.absf (shapeCast S64x128x64x128 v shapeCasts_S8192x8192_S64x128x64x128))
    (constant S_ .f32 4286578688#32) reducesTo_S64x128x64x128_S64x64_d1_3 h_S_
/-- and the scales of magnitudes `a`. -/
def scalesR (a : FVec F S64x64 .f32) : FVec F S64x64 .f32 :=
  select (cmpf .oeq a (broadcastInDim S64x64 ![] bcast_S_S64x64 (constant S_ .f32 0#32)))
    (broadcastInDim S64x64 ![] bcast_S_S64x64 (constant S_ .f32 1065353216#32))
    (Host.divf a (broadcastInDim S64x64 ![] bcast_S_S64x64 (constant S_ .f32 1123942400#32)))

/-- The call finds the values -/
theorem found_vals : V m c main_v1 = valsR m c := by
  show StableHlo.after (List.flatten [hostOps0, hostOps0_1]) (fun b => m (c, b)) _ = _
  simp only [hostOps0, hostOps0_1, List.flatten_cons, List.flatten_nil, List.append_nil, List.cons_append, List.nil_append]
  after_results
  rfl

/-- and the scales. -/
theorem found_scales : V m c main_v9 = scalesR (amaxR (valsR m c)) := by
  show StableHlo.after (List.flatten [hostOps0, hostOps0_1]) (fun b => m (c, b)) _ = _
  simp only [hostOps0, hostOps0_1, List.flatten_cons, List.flatten_nil, List.append_nil, List.cons_append, List.nil_append]
  after_results
  rfl

end Host

variable (m : (ℓ : Loc nD τ sig) → Buf (Elt Ideal) ℓ) (ρ : Dev nD → PrngReg) (c : Dev nD)

/-- The three arguments. -/
abbrev argX : FVec Ideal ⟨2, ![15360, 8192]⟩ .bf16 := m ((c : Thread nD τ).loc main_arg0)
abbrev argY : FVec Ideal ⟨2, ![15360, 8192]⟩ .bf16 := m ((c : Thread nD τ).loc main_arg1)
abbrev argE : FVec Ideal ⟨2, ![8192, 8192]⟩ .f32 := m ((c : Thread nD τ).loc main_arg2)

/-- The array of values at coordinates. -/
theorem valsR_at (r s : Fin 8192) : valsR m c (ix2 r s) = Quant.val (argX m c) (argY m c) (argE m c) r s := by
  pointwise [valsR]
  rfl

/-- The squares' largest magnitudes of values `v` at coordinates. -/
theorem amaxR_fold (v : FVec Ideal S8192x8192 .f32) (p q : Fin 64) :
    amaxR v (ix2 p q) = Finset.fold (max : EReal → EReal → EReal) (Ideal.ofBits .f32 4286578688#32)
      (fun s : Fin 128 × Fin 128 => Host.absf (shapeCast S64x128x64x128 v shapeCasts_S8192x8192_S64x128x64x128) (ix4 p s.1 q s.2))
      Finset.univ := by
  unfold amaxR
  rw [reduce_at]
  rfl

/-- A square's largest magnitude. -/
theorem amaxR_at (p q : Fin 64) : amaxR (valsR m c) (ix2 p q) = Quant.amax (argX m c) (argY m c) (argE m c) p q := by
  rw [amaxR_fold]
  unfold Quant.amax
  congr 1
  funext s
  rw [← valsR_at]
  pointwise []

/-- The scales of magnitudes `a` at coordinates. -/
theorem scalesR_of (a : FVec Ideal S64x64 .f32) (p q : Fin 64) : scalesR a (ix2 p q) = Quant.scaleOf (a (ix2 p q)) := by
  pointwise [scalesR]
  rfl

/-- A square's scale. -/
theorem scalesR_at (p q : Fin 64) :
    scalesR (amaxR (valsR m c)) (ix2 p q) = Quant.scale (argX m c) (argY m c) (argE m c) p q :=
  (scalesR_of _ p q).trans (congrArg Quant.scaleOf (amaxR_at m c p q))

/-- The scales are the second result. -/
theorem scales_ref : V m c main_v9 = Quant.scales (argX m c) (argY m c) (argE m c) := by
  rw [found_scales]
  funext i
  idx_vars i
  exact scalesR_at m c _ _

/-! ## The call -/

/-- The codes at coordinates, from the values and the scales. -/
theorem pay3_at (w : Vec Ideal S8192x8192 .f32) (s : Vec Ideal S64x64 .f32) (r d : Fin 8192) :
    k0_pay3 (F := Ideal) w s (ix2 r d) = FloatOps.fptosi (F := Ideal) (φ := .f32) 8
      (Quant.quant (w (ix2 r d)) (s (ix2 ⟨r.val / 128, by omega⟩ ⟨d.val / 128, by omega⟩))) := by
  pointwise [k0_pay3, k0_pay1, k0_pay2]
  rfl

/-- The new errors at coordinates: the code read back is the rounded value. -/
theorem pay4_at (w : Vec Ideal S8192x8192 .f32) (s : Vec Ideal S64x64 .f32) (r d : Fin 8192) :
    k0_pay4 (F := Ideal) w s (ix2 r d) = w (ix2 r d)
      - Quant.quant (w (ix2 r d)) (s (ix2 ⟨r.val / 128, by omega⟩ ⟨d.val / 128, by omega⟩))
        * s (ix2 ⟨r.val / 128, by omega⟩ ⟨d.val / 128, by omega⟩) := by
  rw [← Quant.quant_round_trip]
  pointwise [k0_pay4, k0_pay3, k0_pay1, k0_pay2]
  rfl

theorem hz : (![0, 0] : Fin 2 → Nat) = fun _ => 0 := funext fun a => by fin_cases a <;> rfl

/-- Every window of the one-point call starts at the origin. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

/-- The one point's blocks are the whole arrays: of the values, -/
theorem blk_vals (t : Fin cfg0.N) (r d : Fin 8192) :
    (iblk m c 0 t : FVec Ideal S8192x8192 .f32) (ix2 r d) = valsR m c (ix2 r d) := by
  rw [← found_vals]
  unfold iblk
  generalize V m c = B
  blk_ext [idx0 t]

/-- and of the scales: read through its window, an array of them is itself, -/
theorem read_scales (X : FVec Ideal S64x64 .f32) (t : Fin cfg0.N) (r d : Fin 64) :
    (win0_1.blk t).view.read (Elt Ideal) X (ix2 r d) = X (ix2 r d) := by
  blk_ext [idx1 t]

/-- the window's array is the scales', -/
theorem read_arr (B : (b : Ref sig .tc) → Buf (Elt Ideal) ((c : Thread nD τ).loc b)) (t : Fin cfg0.N) :
    ((cfg0.win 1).blk t).view.read (Elt Ideal) (B (Pipeline.arrRef spec0 1)) = (win0_1.blk t).view.read (Elt Ideal) (B main_v9) := rfl

theorem blk_scales (t : Fin cfg0.N) (r d : Fin 64) :
    (iblk m c 1 t : FVec Ideal S64x64 .f32) (ix2 r d) = scalesR (amaxR (valsR m c)) (ix2 r d) := by
  rw [← read_scales (scalesR (amaxR (valsR m c))) t r d, ← found_scales]
  exact congrFun (read_arr c (V m c) t) (ix2 r d)

/-- The first result array holds the codes. -/
theorem codes_arr : (dats m 0 c).arrAt 2 cfg0.N = Quant.codes (argX m c) (argY m c) (argE m c) := by
  refine (dats m 0 c).arrAt_eq_of_covers 2 _ (by decide +kernel) fun t hf y => ?_
  blk_simp
  rw [after0_2]
  unfold out0_2
  rw [View.canon_unit_zero hz, View.ld_unit_zero hz, View.ld_unit_zero hz]
  idx_vars y
  refine (pay3_at _ _ _ _).trans ?_
  rw [blk_vals, blk_scales, valsR_at, scalesR_at]
  refine (Quant.codes_at _ _ _ _ _).symm.trans ?_
  blk_ext [idx2 t]

/-- The third result array holds the new error. -/
theorem newErr_arr : (dats m 0 c).arrAt 3 cfg0.N = Quant.newErr (argX m c) (argY m c) (argE m c) := by
  refine (dats m 0 c).arrAt_eq_of_covers 3 _ (by decide +kernel) fun t hf y => ?_
  blk_simp
  rw [after0_3]
  unfold out0_3
  rw [View.canon_unit_zero hz, View.ld_unit_zero hz, View.ld_unit_zero hz]
  idx_vars y
  refine (pay4_at _ _ _ _).trans ?_
  rw [blk_vals, blk_scales, valsR_at, scalesR_at]
  refine (Quant.newErr_at _ _ _ _ _).symm.trans ?_
  blk_ext [idx3 t]

/-- THE REFERENCE'S RUN, READ. -/
theorem run : θ_run defs (onTc (τ := τ) (main (F := Ideal))) ⟨m, fun _ => 0, ρ⟩ (fun r => ∀ c : Dev nD,
      r.2.mem ((c.tc : Thread nD τ).loc main_v10_0) = Quant.codes (argX m c) (argY m c) (argE m c)
      ∧ r.2.mem ((c.tc : Thread nD τ).loc main_v9) = Quant.scales (argX m c) (argY m c) (argE m c)
      ∧ r.2.mem ((c.tc : Thread nD τ).loc main_v10_1) = Quant.newErr (argX m c) (argY m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (codes_arr m c),
      ((((h.1 c).1 1).trans ((dats m 0 c).arrAt_in 1 rfl _)).trans (A_eq m c 1)).trans (scales_ref m c),
      ((h.1 c).1 3).trans (newErr_arr m c), h.2 c⟩)
    (θ_run_and (run_main m ρ) (unchanged m ρ))

end Cert.ReferenceIdeal.Value

end
-- ==== Proof.lean ====
/-
  THE CERTIFICATE. The three frames, and the equation: the kernel's run and the reference's run, each read as the codes, the
  scales and the new error of its own arguments (`Results.lean`, `Reference.lean`), at arguments that agree.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Results
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel and the reference, from memories that agree on the arguments, end with equal results: the codes, the scales
    and the new error of the arguments. -/
theorem equation [hKernelIdeal : Cert.KernelIdeal.Facts] [hReferenceIdeal : Cert.ReferenceIdeal.Facts] :
    Cert.algebraic_KernelIdeal_ReferenceIdeal := by
  intro m g m' g' _ hagree
  refine ⟨fun c => Quant.codes (KernelIdeal.Value.argX m c) (KernelIdeal.Value.argY m c) (KernelIdeal.Value.argE m c),
    fun c => Quant.scales (KernelIdeal.Value.argX m c) (KernelIdeal.Value.argY m c) (KernelIdeal.Value.argE m c),
    fun c => Quant.newErr (KernelIdeal.Value.argX m c) (KernelIdeal.Value.argY m c) (KernelIdeal.Value.argE m c),
    KernelIdeal.Value.run m g, ?_⟩
  refine (θ_run _ _ _).mono (fun r h c => ?_) (ReferenceIdeal.Value.run m' g')
  have hx : ReferenceIdeal.Value.argX m' c = KernelIdeal.Value.argX m c := (hagree c).1
  have hy : ReferenceIdeal.Value.argY m' c = KernelIdeal.Value.argY m c := (hagree c).2.1
  have he : ReferenceIdeal.Value.argE m' c = KernelIdeal.Value.argE m c := (hagree c).2.2
  have h := h c
  rw [hx, hy, he] at h
  exact h

/-- Every claim of the certificate holds. -/
theorem claim : Cert.Claim := ⟨Cert.Kernel.Gen.facts, Cert.KernelIdeal.Gen.facts, Cert.ReferenceIdeal.Gen.facts,
  fun m ρ _ => Cert.Kernel.Value.frame_holds m ρ,
  fun m ρ _ => Cert.KernelIdeal.Value.frame_holds m ρ,
  fun m ρ _ => Cert.ReferenceIdeal.Gen.frame m ρ,
  trivial,
  equation⟩

end Cert.Proof

end
